-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v19) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Attn_AttnIdeal : Prop :=
  IdealRules.named_const.Statement Cert.AttnIdeal.κ "qscale" .f32 0x3E38AA3B#32 (((1 / 8) * (Real.log 2)⁻¹ : ℝ) : EReal)
  ∧ IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v72_0)) (v1 : (c : Dev Cert.QkvIdeal.nD) → Buf (Elt Ideal) ((c.tc : Thread Cert.QkvIdeal.nD Cert.QkvIdeal.τ).loc Cert.QkvIdeal.main_v72_1)) (v2 : (c : Dev Cert.QkvIdeal.nD) → Buf (Elt Ideal) ((c.tc : Thread Cert.QkvIdeal.nD Cert.QkvIdeal.τ).loc Cert.QkvIdeal.main_v72_2)) (v3 : (c : Dev Cert.QkvIdeal.nD) → Buf (Elt Ideal) ((c.tc : Thread Cert.QkvIdeal.nD Cert.QkvIdeal.τ).loc Cert.QkvIdeal.main_v72_3)) (v4 : (c : Dev Cert.QkvIdeal.nD) → Buf (Elt Ideal) ((c.tc : Thread Cert.QkvIdeal.nD Cert.QkvIdeal.τ).loc Cert.QkvIdeal.main_v72_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v72_0) = v0 c
          ∧ r.2.mem ((c.tc : Thread Cert.QkvIdeal.nD Cert.QkvIdeal.τ).loc Cert.QkvIdeal.main_v72_1) = v1 c
          ∧ r.2.mem ((c.tc : Thread Cert.QkvIdeal.nD Cert.QkvIdeal.τ).loc Cert.QkvIdeal.main_v72_2) = v2 c
          ∧ r.2.mem ((c.tc : Thread Cert.QkvIdeal.nD Cert.QkvIdeal.τ).loc Cert.QkvIdeal.main_v72_3) = v3 c
          ∧ r.2.mem ((c.tc : Thread Cert.QkvIdeal.nD Cert.QkvIdeal.τ).loc Cert.QkvIdeal.main_v72_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v64) = v0 c
          ∧ r.2.mem ((c.tc : Thread Cert.QkvRefIdeal.nD Cert.QkvRefIdeal.τ).loc Cert.QkvRefIdeal.main_v80) = v1 c
          ∧ r.2.mem ((c.tc : Thread Cert.QkvRefIdeal.nD Cert.QkvRefIdeal.τ).loc Cert.QkvRefIdeal.main_v83) = v2 c
          ∧ r.2.mem ((c.tc : Thread Cert.QkvRefIdeal.nD Cert.QkvRefIdeal.τ).loc Cert.QkvRefIdeal.main_v99) = v3 c
          ∧ r.2.mem ((c.tc : Thread Cert.QkvRefIdeal.nD Cert.QkvRefIdeal.τ).loc Cert.QkvRefIdeal.main_v102) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hPre_attn_finite : Cert.Pre_attn_finite.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Qkv_QkvIdeal
    ∧ algebraic_QkvIdeal_QkvRefIdeal (hQkvIdeal := hQkvIdeal) (hQkvRefIdeal := hQkvRefIdeal)
-- ==== Pre_attn_finite.lean ====
abbrev S8 : Shape := ⟨1, ![8]⟩
abbrev S4x2048x8x64 : Shape := ⟨4, ![4, 2048, 8, 64]⟩
abbrev S4x2048x2x64 : Shape := ⟨4, ![4, 2048, 2, 64]⟩
abbrev S4x256x2x64 : Shape := ⟨4, ![4, 256, 2, 64]⟩
abbrev S_ : Shape := ⟨0, ![]⟩

class Facts : Prop where
  bcast_S_S8 : S_.BroadcastsInDim S8 (![] : Fin 0 → Fin S8.rank)
  bcast_S_S4x2048x8x64 : S_.BroadcastsInDim S4x2048x8x64 (![] : Fin 0 → Fin S4x2048x8x64.rank)
  bcast_S_S4x2048x2x64 : S_.BroadcastsInDim S4x2048x2x64 (![] : Fin 0 → Fin S4x2048x2x64.rank)
  bcast_S_S4x256x2x64 : S_.BroadcastsInDim S4x256x2x64 (![] : Fin 0 → Fin S4x256x2x64.rank)

variable [Facts]

def fn_part1 {F : FTy → Type} [FloatOps F] (main_arg9 : FVec F S4x256x2x64 .f32) (main_v2 : IVec S8 1) (main_v5 : IVec S4x2048x8x64 1) (main_v8 : IVec S4x2048x2x64 1) (main_v11 : IVec S4x2048x8x64 1) (main_v14 : IVec S4x2048x2x64 1) (main_v17 : IVec S4x256x2x64 1) : IVec S8 1 × IVec S4x2048x8x64 1 × IVec S4x2048x2x64 1 × IVec S4x2048x8x64 1 × IVec S4x2048x2x64 1 × IVec S4x256x2x64 1 × IVec S4x256x2x64 1 :=
  let main_v18 : FVec F S4x256x2x64 .f32 := Host.absf main_arg9
  let main_cst_5 : FVec F S_ .f32 := constant S_ .f32 0x7F800000#32
  let main_v19 : FVec F S4x256x2x64 .f32 := broadcastInDim S4x256x2x64 ![] bcast_S_S4x256x2x64 main_cst_5
  let main_v20 : IVec S4x256x2x64 1 := cmpf .olt main_v18 main_v19
  (main_v2, main_v5, main_v8, main_v11, main_v14, main_v17, main_v20)

def fn {F : FTy → Type} [FloatOps F] (main_arg0 : FVec F S8 .f32) (main_arg1 : FVec F S4x2048x8x64 .f32) (main_arg2 : FVec F S4x2048x2x64 .f32) (main_arg3 : FVec F S4x2048x2x64 .f32) (main_arg4 : FVec F S4x2048x8x64 .f32) (main_arg5 : FVec F S4x2048x2x64 .f32) (main_arg6 : FVec F S4x2048x2x64 .f32) (main_arg7 : FVec F S4x256x2x64 .f32) (main_arg8 : FVec F S4x256x2x64 .f32) (main_arg9 : FVec F S4x256x2x64 .f32) (main_arg10 : FVec F S4x256x2x64 .f32) : IVec S8 1 × IVec S4x2048x8x64 1 × IVec S4x2048x2x64 1 × IVec S4x2048x8x64 1 × IVec S4x2048x2x64 1 × IVec S4x256x2x64 1 × IVec S4x256x2x64 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S4x2048x8x64 .f32 := Host.absf main_arg1
  let main_cst_0 : FVec F S_ .f32 := constant S_ .f32 0x7F800000#32
  let main_v4 : FVec F S4x2048x8x64 .f32 := broadcastInDim S4x2048x8x64 ![] bcast_S_S4x2048x8x64 main_cst_0
  let main_v5 : IVec S4x2048x8x64 1 := cmpf .olt main_v3 main_v4
  let main_v6 : FVec F S4x2048x2x64 .f32 := Host.absf main_arg2
  let main_cst_1 : FVec F S_ .f32 := constant S_ .f32 0x7F800000#32
  let main_v7 : FVec F S4x2048x2x64 .f32 := broadcastInDim S4x2048x2x64 ![] bcast_S_S4x2048x2x64 main_cst_1
  let main_v8 : IVec S4x2048x2x64 1 := cmpf .olt main_v6 main_v7
  let main_v9 : FVec F S4x2048x8x64 .f32 := Host.absf main_arg4
  let main_cst_2 : FVec F S_ .f32 := constant S_ .f32 0x7F800000#32
  let main_v10 : FVec F S4x2048x8x64 .f32 := broadcastInDim S4x2048x8x64 ![] bcast_S_S4x2048x8x64 main_cst_2
  let main_v11 : IVec S4x2048x8x64 1 := cmpf .olt main_v9 main_v10
  let main_v12 : FVec F S4x2048x2x64 .f32 := Host.absf main_arg5
  let main_cst_3 : FVec F S_ .f32 := constant S_ .f32 0x7F800000#32
  let main_v13 : FVec F S4x2048x2x64 .f32 := broadcastInDim S4x2048x2x64 ![] bcast_S_S4x2048x2x64 main_cst_3
  let main_v14 : IVec S4x2048x2x64 1 := cmpf .olt main_v12 main_v13
  let main_v15 : FVec F S4x256x2x64 .f32 := Host.absf main_arg7
  let main_cst_4 : FVec F S_ .f32 := constant S_ .f32 0x7F800000#32
  let main_v16 : FVec F S4x256x2x64 .f32 := broadcastInDim S4x256x2x64 ![] bcast_S_S4x256x2x64 main_cst_4
  let main_v17 : IVec S4x256x2x64 1 := cmpf .olt main_v15 main_v16
  fn_part1 (F := F) main_arg9 main_v2 main_v5 main_v8 main_v11 main_v14 main_v17
-- ==== Ffn.lean ====
abbrev S4x16x256x1024 : Shape := ⟨4, ![4, 16, 256, 1024]⟩
abbrev S32x16x32x1024 : Shape := ⟨4, ![32, 16, 32, 1024]⟩
abbrev S16x1024x2048 : Shape := ⟨3, ![16, 1024, 2048]⟩
abbrev S16x2048x1024 : Shape := ⟨3, ![16, 2048, 1024]⟩
abbrev S4x1x256x1024 : Shape := ⟨4, ![4, 1, 256, 1024]⟩
abbrev S32x1x32x1024 : Shape := ⟨4, ![32, 1, 32, 1024]⟩
abbrev S1x1024x512 : Shape := ⟨3, ![1, 1024, 512]⟩
abbrev S1x512x1024 : Shape := ⟨3, ![1, 512, 1024]⟩
abbrev S2048x1024 : Shape := ⟨2, ![2048, 1024]⟩
abbrev S1024x512 : Shape := ⟨2, ![1024, 512]⟩
abbrev S512x1024 : Shape := ⟨2, ![512, 1024]⟩
abbrev S2x1x256x1024 : Shape := ⟨4, ![2, 1, 256, 1024]⟩
abbrev S2x256x1024 : Shape := ⟨3, ![2, 256, 1024]⟩
abbrev S512x512 : Shape := ⟨2, ![512, 512]⟩
abbrev S16x1x32x1024 : Shape := ⟨4, ![16, 1, 32, 1024]⟩
abbrev S16x32x1024 : Shape := ⟨3, ![16, 32, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4x16x256x1024, .bf16⟩
  | .hbm, ⟨1, _⟩ => ⟨S32x16x32x1024, .bf16⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S4x16x256x1024, .bf16⟩
  | .hbm, ⟨6, _⟩ => ⟨S32x16x32x1024, .bf16⟩
  | .local _ .vmem, ⟨0, _⟩ => ⟨S4x1x256x1024, .bf16⟩
  | .local _ .vmem, ⟨1, _⟩ => ⟨S4x1x256x1024, .bf16⟩
  | .local _ .vmem, ⟨2, _⟩ => ⟨S32x1x32x1024, .bf16⟩
  | .local _ .vmem, ⟨3, _⟩ => ⟨S32x1x32x1024, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S4x1x256x1024, .bf16⟩
  | .local _ .vmem, ⟨11, _⟩ => ⟨S4x1x256x1024, .bf16⟩
  | .local _ .vmem, ⟨12, _⟩ => ⟨S32x1x32x1024, .bf16⟩
  | .local _ .vmem, ⟨13, _⟩ => ⟨S32x1x32x1024, .bf16⟩
  | .local _ .vmem, ⟨14, _⟩ => ⟨S2048x1024, .f32⟩
  | _, _ => ⟨S4x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x16x256x1024 : Shape := ⟨4, ![4, 16, 256, 1024]⟩
abbrev S32x16x32x1024 : Shape := ⟨4, ![32, 16, 32, 1024]⟩
abbrev S16x1024x2048 : Shape := ⟨3, ![16, 1024, 2048]⟩
abbrev S16x2048x1024 : Shape := ⟨3, ![16, 2048, 1024]⟩
abbrev S16x2048x4x256 : Shape := ⟨4, ![16, 2048, 4, 256]⟩
abbrev S4x16x256x2048 : Shape := ⟨4, ![4, 16, 256, 2048]⟩
abbrev S_ : Shape := ⟨0, ![]⟩
abbrev S16x1024x4x256 : Shape := ⟨4, ![16, 1024, 4, 256]⟩
abbrev S16x2048x32x32 : Shape := ⟨4, ![16, 2048, 32, 32]⟩
abbrev S32x16x32x2048 : Shape := ⟨4, ![32, 16, 32, 2048]⟩
abbrev S16x1024x32x32 : Shape := ⟨4, ![16, 1024, 32, 32]⟩

abbrev nBuf : Space → Nat
  | .hbm => 41
  | .vmem => 0
  | .smem => 0
  | _ => 0

abbrev bufTy : (tb : Table) → Fin (tcTables nBuf tb) → BufTy
  | .hbm, ⟨0, _⟩ => ⟨S4x16x256x1024, .bf16⟩
  | .hbm, ⟨1, _⟩ => ⟨S32x16x32x1024, .bf16⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S4x16x256x1024, .f32⟩
  | .hbm, ⟨6, _⟩ => ⟨S16x2048x4x256, .f32⟩
  | .hbm, ⟨7, _⟩ => ⟨S4x16x256x2048, .f32⟩
  | .hbm, ⟨8, _⟩ => ⟨S16x2048x4x256, .f32⟩
  | .hbm, ⟨9, _⟩ => ⟨S4x16x256x2048, .f32⟩
  | .hbm, ⟨10, _⟩ => ⟨S4x16x256x2048, .f32⟩
  | .hbm, ⟨11, _⟩ => ⟨S4x16x256x2048, .f32⟩
  | .hbm, ⟨12, _⟩ => ⟨S_, .f32⟩
  | .hbm, ⟨13, _⟩ => ⟨S4x16x256x2048, .f32⟩
  | .hbm, ⟨14, _⟩ => ⟨S4x16x256x2048, .f32⟩
  | .hbm, ⟨15, _⟩ => ⟨S_, .f32⟩
  | .hbm, ⟨16, _⟩ => ⟨S4x16x256x2048, .f32⟩
  | .hbm, ⟨17, _⟩ => ⟨S4x16x256x2048, .f32⟩
  | .hbm, ⟨18, _⟩ => ⟨S4x16x256x2048, .f32⟩
  | .hbm, ⟨19, _⟩ => ⟨S4x16x256x2048, .f32⟩
  | .hbm, ⟨20, _⟩ => ⟨S16x1024x4x256, .f32⟩
  | .hbm, ⟨21, _⟩ => ⟨S4x16x256x1024, .f32⟩
  | .hbm, ⟨22, _⟩ => ⟨S4x16x256x1024, .bf16⟩
  | .hbm, ⟨23, _⟩ => ⟨S32x16x32x1024, .f32⟩
  | .hbm, ⟨24, _⟩ => ⟨S16x2048x32x32, .f32⟩
  | .hbm, ⟨25, _⟩ => ⟨S32x16x32x2048, .f32⟩
  | .hbm, ⟨26, _⟩ => ⟨S16x2048x32x32, .f32⟩
  | .hbm, ⟨27, _⟩ => ⟨S32x16x32x2048, .f32⟩
  | .hbm, ⟨28, _⟩ => ⟨S32x16x32x2048, .f32⟩
  | .hbm, ⟨29, _⟩ => ⟨S32x16x32x2048, .f32⟩
  | .hbm, ⟨30, _⟩ => ⟨S_, .f32⟩
  | .hbm, ⟨31, _⟩ => ⟨S32x16x32x2048, .f32⟩
  | .hbm, ⟨32, _⟩ => ⟨S32x16x32x2048, .f32⟩
  | .hbm, ⟨33, _⟩ => ⟨S_, .f32⟩
  | .hbm, ⟨34, _⟩ => ⟨S32x16x32x2048, .f32⟩
  | .hbm, ⟨35, _⟩ => ⟨S32x16x32x2048, .f32⟩
  | .hbm, ⟨36, _⟩ => ⟨S32x16x32x2048, .f32⟩
  | .hbm, ⟨37, _⟩ => ⟨S32x16x32x2048, .f32⟩
  | .hbm, ⟨38, _⟩ => ⟨S16x1024x32x32, .f32⟩
  | .hbm, ⟨39, _⟩ => ⟨S32x16x32x1024, .f32⟩
  | .hbm, ⟨40, _⟩ => ⟨S32x16x32x1024, .bf16⟩
  | _, _ => ⟨S4x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Attn.lean ====
abbrev S8 : Shape := ⟨1, ![8]⟩
abbrev S4x2048x8x64 : Shape := ⟨4, ![4, 2048, 8, 64]⟩
abbrev S4x2048x2x64 : Shape := ⟨4, ![4, 2048, 2, 64]⟩
abbrev S4x256x2x64 : Shape := ⟨4, ![4, 256, 2, 64]⟩
abbrev S8192x512 : Shape := ⟨2, ![8192, 512]⟩
abbrev S8192x1024 : Shape := ⟨2, ![8192, 1024]⟩
abbrev S8192x128 : Shape := ⟨2, ![8192, 128]⟩
abbrev S4x256x128 : Shape := ⟨3, ![4, 256, 128]⟩
abbrev S512x1024 : Shape := ⟨2, ![512, 1024]⟩
abbrev S2048x128 : Shape := ⟨2, ![2048, 128]⟩
abbrev S1x256x128 : Shape := ⟨3, ![1, 256, 128]⟩
abbrev S256x128 : Shape := ⟨2, ![256, 128]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S256x512 : Shape := ⟨2, ![256, 512]⟩
abbrev S1 : Shape := ⟨1, ![1]⟩
abbrev S256x256 : Shape := ⟨2, ![256, 256]⟩
abbrev S256 : Shape := ⟨1, ![256]⟩
abbrev S256x1 : Shape := ⟨2, ![256, 1]⟩

abbrev nBuf : Space → Nat
  | .hbm => 28
  | .vmem => 20
  | .smem => 1
  | _ => 0

abbrev bufTy : (tb : Table) → Fin (tcTables nBuf tb) → BufTy
  | .hbm, ⟨0, _⟩ => ⟨S8, .f32⟩
  | .hbm, ⟨1, _⟩ => ⟨S4x2048x8x64, .f32⟩
  | .hbm, ⟨2, _⟩ => ⟨S4x2048x2x64, .f32⟩
  | .hbm, ⟨3, _⟩ => ⟨S4x2048x2x64, .f32⟩
  | .hbm, ⟨4, _⟩ => ⟨S4x2048x8x64, .f32⟩
  | .hbm, ⟨5, _⟩ => ⟨S4x2048x2x64, .f32⟩
  | .hbm, ⟨6, _⟩ => ⟨S4x2048x2x64, .f32⟩
  | .hbm, ⟨7, _⟩ => ⟨S4x256x2x64, .f32⟩
  | .hbm, ⟨8, _⟩ => ⟨S4x256x2x64, .f32⟩
  | .hbm, ⟨9, _⟩ => ⟨S4x256x2x64, .f32⟩
  | .hbm, ⟨10, _⟩ => ⟨S4x256x2x64, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .bf16⟩
  | .hbm, ⟨15, _⟩ => ⟨S8192x128, .f32⟩
  | .hbm, ⟨16, _⟩ => ⟨S8192x128, .bf16⟩
  | .hbm, ⟨17, _⟩ => ⟨S8192x128, .f32⟩
  | .hbm, ⟨18, _⟩ => ⟨S8192x128, .bf16⟩
  | .hbm, ⟨19, _⟩ => ⟨S8192x128, .f32⟩
  | .hbm, ⟨20, _⟩ => ⟨S8192x128, .bf16⟩
  | .hbm, ⟨21, _⟩ => ⟨S8192x128, .f32⟩
  | .hbm, ⟨22, _⟩ => ⟨S8192x128, .bf16⟩
  | .hbm, ⟨23, _⟩ => ⟨S4x256x128, .f32⟩
  | .hbm, ⟨24, _⟩ => ⟨S4x256x128, .f32⟩
  | .hbm, ⟨25, _⟩ => ⟨S4x256x128, .f32⟩
  | .hbm, ⟨26, _⟩ => ⟨S4x256x128, .f32⟩
  | .hbm, ⟨27, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S512x1024, .bf16⟩
  | .local _ .vmem, ⟨19, _⟩ => ⟨S512x1024, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c1536_i32 : BitVec 32 := 1536#32
  let c0_i32_144 : BitVec 32 := 0#32
  let arg1 : BitVec 32 := BitVec.ofNat 32 (i 1).val
  let c512_i32 : BitVec 32 := 512#32
  let v398 : BitVec 32 := Scalar.muli arg1 c512_i32
  let c0_i32_143 : BitVec 32 := 0#32
  let v399 : BitVec 32 := Scalar.addi v398 c0_i32_143
  let c128_i32 : BitVec 32 := 128#32
  let v400 : BitVec 32 := Scalar.subi v399 c128_i32
  let v401 : BitVec 32 := Scalar.maxsi c0_i32_144 v400
  let v402 : BitVec 32 := Scalar.minsi c1536_i32 v401
  v402
def k0_off1 (i : grid0.Coords) (c0_i32_143 : BitVec 32) : Fin 2 → Nat :=
  let c1536_i32 : BitVec 32 := 1536#32
  let c0_i32_144 : BitVec 32 := 0#32
  let arg1 : BitVec 32 := BitVec.ofNat 32 (i 1).val
  let c512_i32 : BitVec 32 := 512#32
  let v398 : BitVec 32 := Scalar.muli arg1 c512_i32
  let v399 : BitVec 32 := Scalar.addi v398 c0_i32_143
  let c128_i32 : BitVec 32 := 128#32
  let v400 : BitVec 32 := Scalar.subi v399 c128_i32
  let v401 : BitVec 32 := Scalar.maxsi c0_i32_144 v400
  let v402 : BitVec 32 := Scalar.minsi c1536_i32 v401
  let v403 : BitVec 32 := v402
  let v414 : Index := Scalar.indexCast v403
  let c0_146 : Index := 0#32
  ![v414.toNat, 0]
def k0_mult2 (i : grid0.Coords) : BitVec 32 :=
  let c1536_i32_276 : BitVec 32 := 1536#32
  let c0_i32_275 : BitVec 32 := 0#32
  let arg1 : BitVec 32 := BitVec.ofNat 32 (i 1).val
  let c512_i32_273 : BitVec 32 := 512#32
  let v814 : BitVec 32 := Scalar.muli arg1 c512_i32_273
  let c256_i32 : BitVec 32 := 256#32
  let v815 : BitVec 32 := Scalar.addi v814 c256_i32
  let c128_i32_274 : BitVec 32 := 128#32
  let v816 : BitVec 32 := Scalar.subi v815 c128_i32_274
  let v817 : BitVec 32 := Scalar.maxsi c0_i32_275 v816
  let v818 : BitVec 32 := Scalar.minsi c1536_i32_276 v817
  v818
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== AttnRefIdeal.lean ====
abbrev S8 : Shape := ⟨1, ![8]⟩
abbrev S4x2048x8x64 : Shape := ⟨4, ![4, 2048, 8, 64]⟩
abbrev S4x2048x2x64 : Shape := ⟨4, ![4, 2048, 2, 64]⟩
abbrev S4x256x2x64 : Shape := ⟨4, ![4, 256, 2, 64]⟩
abbrev S2x4 : Shape := ⟨2, ![2, 4]⟩
abbrev S4x2304x2x64 : Shape := ⟨4, ![4, 2304, 2, 64]⟩
abbrev S4x2048x2x4x64 : Shape := ⟨5, ![4, 2048, 2, 4, 64]⟩
abbrev S_ : Shape := ⟨0, ![]⟩
abbrev S4x2x2304x2048x4 : Shape := ⟨5, ![4, 2, 2304, 2048, 4]⟩
abbrev S4x2x4x2048x2304 : Shape := ⟨5, ![4, 2, 4, 2048, 2304]⟩
abbrev S4x2x4x2048 : Shape := ⟨4, ![4, 2, 4, 2048]⟩
abbrev S4x2x4x2048x1 : Shape := ⟨5, ![4, 2, 4, 2048, 1]⟩
abbrev S4x2x64x4x2048 : Shape := ⟨5, ![4, 2, 64, 4, 2048]⟩
abbrev S4x2048x512 : Shape := ⟨3, ![4, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2x2048x2048x4 : Shape := ⟨5, ![4, 2, 2048, 2048, 4]⟩
abbrev S4x2x4x2048x2048 : Shape := ⟨5, ![4, 2, 4, 2048, 2048]⟩
abbrev S1x1x1x2048x2048 : Shape := ⟨5, ![1, 1, 1, 2048, 2048]⟩
abbrev S4x2x256x2048x4 : Shape := ⟨5, ![4, 2, 256, 2048, 4]⟩
abbrev S4x2x4x2048x256 : Shape := ⟨5, ![4, 2, 4, 2048, 256]⟩
abbrev S2x4x1x1 : Shape := ⟨4, ![2, 4, 1, 1]⟩
abbrev S4x2x4x2048x2305 : Shape := ⟨5, ![4, 2, 4, 2048, 2305]⟩
abbrev S4x2048x1024 : Shape := ⟨3, ![4, 2048, 1024]⟩
abbrev S8192x1024 : Shape := ⟨2, ![8192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x2048x8x64, .f32⟩
  | .hbm, ⟨2, _⟩ => ⟨S4x2048x2x64, .f32⟩
  | .hbm, ⟨3, _⟩ => ⟨S4x2048x2x64, .f32⟩
  | .hbm, ⟨4, _⟩ => ⟨S4x2048x8x64, .f32⟩
  | .hbm, ⟨5, _⟩ => ⟨S4x2048x2x64, .f32⟩
  | .hbm, ⟨6, _⟩ => ⟨S4x2048x2x64, .f32⟩
  | .hbm, ⟨7, _⟩ => ⟨S4x256x2x64, .f32⟩
  | .hbm, ⟨8, _⟩ => ⟨S4x256x2x64, .f32⟩
  | .hbm, ⟨9, _⟩ => ⟨S4x256x2x64, .f32⟩
  | .hbm, ⟨10, _⟩ => ⟨S4x256x2x64, .f32⟩
  | .hbm, ⟨11, _⟩ => ⟨S2x4, .f32⟩
  | .hbm, ⟨12, _⟩ => ⟨S4x2304x2x64, .f32⟩
  | .hbm, ⟨13, _⟩ => ⟨S4x2304x2x64, .f32⟩
  | .hbm, ⟨14, _⟩ => ⟨S4x2048x2x4x64, .f32⟩
  | .hbm, ⟨15, _⟩ => ⟨S_, .f32⟩
  | .hbm, ⟨16, _⟩ => ⟨S4x2048x2x4x64, .f32⟩
  | .hbm, ⟨17, _⟩ => ⟨S4x2048x2x4x64, .f32⟩
  | .hbm, ⟨18, _⟩ => ⟨S4x2x2304x2048x4, .f32⟩
  | .hbm, ⟨19, _⟩ => ⟨S4x2x4x2048x2304, .f32⟩
  | .hbm, ⟨20, _⟩ => ⟨S_, .f32⟩
  | .hbm, ⟨21, _⟩ => ⟨S4x2x4x2048, .f32⟩
  | .hbm, ⟨22, _⟩ => ⟨S_, .f32⟩
  | .hbm, ⟨23, _⟩ => ⟨S4x2x4x2048, .f32⟩
  | .hbm, ⟨24, _⟩ => ⟨S4x2x4x2048, .f32⟩
  | .hbm, ⟨25, _⟩ => ⟨S4x2x4x2048x1, .f32⟩
  | .hbm, ⟨26, _⟩ => ⟨S4x2x4x2048x2304, .f32⟩
  | .hbm, ⟨27, _⟩ => ⟨S4x2x4x2048x2304, .f32⟩
  | .hbm, ⟨28, _⟩ => ⟨S4x2x4x2048x2304, .f32⟩
  | .hbm, ⟨29, _⟩ => ⟨S_, .f32⟩
  | .hbm, ⟨30, _⟩ => ⟨S4x2x4x2048, .f32⟩
  | .hbm, ⟨31, _⟩ => ⟨S4x2x4x2048x1, .f32⟩
  | .hbm, ⟨32, _⟩ => ⟨S4x2x4x2048x2304, .f32⟩
  | .hbm, ⟨33, _⟩ => ⟨S4x2x4x2048x2304, .f32⟩
  | .hbm, ⟨34, _⟩ => ⟨S4x2x64x4x2048, .f32⟩
  | .hbm, ⟨35, _⟩ => ⟨S4x2048x2x4x64, .f32⟩
  | .hbm, ⟨36, _⟩ => ⟨S4x2048x512, .f32⟩
  | .hbm, ⟨37, _⟩ => ⟨S4x2048x2x4x64, .f32⟩
  | .hbm, ⟨38, _⟩ => ⟨S_, .f32⟩
  | .hbm, ⟨39, _⟩ => ⟨S4x2048x2x4x64, .f32⟩
  | .hbm, ⟨40, _⟩ => ⟨S4x2048x2x4x64, .f32⟩
  | .hbm, ⟨41, _⟩ => ⟨S2048, .i32⟩
  | .hbm, ⟨42, _⟩ => ⟨S2048x1, .i32⟩
  | .hbm, ⟨43, _⟩ => ⟨S1x2048, .i32⟩
  | .hbm, ⟨44, _⟩ => ⟨S2048x2048, .i32⟩
  | .hbm, ⟨45, _⟩ => ⟨S2048x2048, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S4x2x2048x2048x4, .f32⟩
  | .hbm, ⟨52, _⟩ => ⟨S4x2x4x2048x2048, .f32⟩
  | .hbm, ⟨53, _⟩ => ⟨S1x1x1x2048x2048, .i1⟩
  | .hbm, ⟨54, _⟩ => ⟨S_, .f32⟩
  | .hbm, ⟨55, _⟩ => ⟨S_, .f32⟩
  | .hbm, ⟨56, _⟩ => ⟨S4x2x4x2048x2048, .i1⟩
  | .hbm, ⟨57, _⟩ => ⟨S4x2x4x2048x2048, .f32⟩
  | .hbm, ⟨58, _⟩ => ⟨S4x2x4x2048x2048, .f32⟩
  | .hbm, ⟨59, _⟩ => ⟨S4x2x256x2048x4, .f32⟩
  | .hbm, ⟨60, _⟩ => ⟨S4x2x4x2048x256, .f32⟩
  | .hbm, ⟨61, _⟩ => ⟨S4x2x4x2048x2304, .f32⟩
  | .hbm, ⟨62, _⟩ => ⟨S2x4x1x1, .f32⟩
  | .hbm, ⟨63, _⟩ => ⟨S4x2x4x2048x1, .f32⟩
  | .hbm, ⟨64, _⟩ => ⟨S4x2x4x2048x2305, .f32⟩
  | .hbm, ⟨65, _⟩ => ⟨S_, .f32⟩
  | .hbm, ⟨66, _⟩ => ⟨S4x2x4x2048, .f32⟩
  | .hbm, ⟨67, _⟩ => ⟨S_, .f32⟩
  | .hbm, ⟨68, _⟩ => ⟨S4x2x4x2048, .f32⟩
  | .hbm, ⟨69, _⟩ => ⟨S4x2x4x2048, .f32⟩
  | .hbm, ⟨70, _⟩ => ⟨S4x2x4x2048x1, .f32⟩
  | .hbm, ⟨71, _⟩ => ⟨S4x2x4x2048x2305, .f32⟩
  | .hbm, ⟨72, _⟩ => ⟨S4x2x4x2048x2305, .f32⟩
  | .hbm, ⟨73, _⟩ => ⟨S4x2x4x2048x2305, .f32⟩
  | .hbm, ⟨74, _⟩ => ⟨S_, .f32⟩
  | .hbm, ⟨75, _⟩ => ⟨S4x2x4x2048, .f32⟩
  | .hbm, ⟨76, _⟩ => ⟨S4x2x4x2048x1, .f32⟩
  | .hbm, ⟨77, _⟩ => ⟨S4x2x4x2048x2305, .f32⟩
  | .hbm, ⟨78, _⟩ => ⟨S4x2x4x2048x2305, .f32⟩
  | .hbm, ⟨79, _⟩ => ⟨S4x2x4x2048x2304, .f32⟩
  | .hbm, ⟨80, _⟩ => ⟨S4x2x4x2048x2048, .f32⟩
  | .hbm, ⟨81, _⟩ => ⟨S4x2x64x4x2048, .f32⟩
  | .hbm, ⟨82, _⟩ => ⟨S4x2048x2x4x64, .f32⟩
  | .hbm, ⟨83, _⟩ => ⟨S4x2x4x2048x256, .f32⟩
  | .hbm, ⟨84, _⟩ => ⟨S4x2x64x4x2048, .f32⟩
  | .hbm, ⟨85, _⟩ => ⟨S4x2048x2x4x64, .f32⟩
  | .hbm, ⟨86, _⟩ => ⟨S4x2048x2x4x64, .f32⟩
  | .hbm, ⟨87, _⟩ => ⟨S4x2048x512, .f32⟩
  | .hbm, ⟨88, _⟩ => ⟨S4x2048x1024, .f32⟩
  | .hbm, ⟨89, _⟩ => ⟨S8192x1024, .f32⟩
  | .hbm, ⟨90, _⟩ => ⟨S8192x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Qkv.lean ====
abbrev S32x256x1024 : Shape := ⟨3, ![32, 256, 1024]⟩
abbrev S1x6144 : Shape := ⟨2, ![1, 6144]⟩
abbrev S1024 : Shape := ⟨1, ![1024]⟩
abbrev S1024x1536 : Shape := ⟨2, ![1024, 1536]⟩
abbrev S64 : Shape := ⟨1, ![64]⟩
abbrev S2 : Shape := ⟨1, ![2]⟩
abbrev S1x6x1024 : Shape := ⟨3, ![1, 6, 1024]⟩
abbrev S_ : Shape := ⟨0, ![]⟩
abbrev S8x8x1024 : Shape := ⟨3, ![8, 8, 1024]⟩
abbrev S128 : Shape := ⟨1, ![128]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S1536 : Shape := ⟨1, ![1536]⟩
abbrev S1x1536 : Shape := ⟨2, ![1, 1536]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2 : Shape := ⟨2, ![1, 2]⟩
abbrev S32x2 : Shape := ⟨2, ![32, 2]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S8192x1024 : Shape := ⟨2, ![8192, 1024]⟩
abbrev S1x1024 : Shape := ⟨2, ![1, 1024]⟩
abbrev S32x128x256 : Shape := ⟨3, ![32, 128, 256]⟩
abbrev S1024x1024 : Shape := ⟨2, ![1024, 1024]⟩
abbrev S1x8x1024 : Shape := ⟨3, ![1, 8, 1024]⟩
abbrev S1024x256 : Shape := ⟨2, ![1024, 256]⟩
abbrev S4x128x256 : Shape := ⟨3, ![4, 128, 256]⟩
abbrev S1x1x1024 : Shape := ⟨3, ![1, 1, 1024]⟩
abbrev S1024x1 : Shape := ⟨2, ![1024, 1]⟩
abbrev S1024x128 : Shape := ⟨2, ![1024, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 131
  | .vmem => 19
  | .smem => 0
  | _ => 0

abbrev hbmTy0_0 (i : Nat) : BufTy := match i % 128 with
  | 0 => ⟨S32x256x1024, .f32⟩
  | 1 => ⟨S1x6144, .f32⟩
  | 2 => ⟨S1024, .f32⟩
  | 3 => ⟨S1024x1536, .f32⟩
  | 4 => ⟨S64, .f32⟩
  | 5 => ⟨S64, .f32⟩
  | 6 => ⟨S64, .f32⟩
  | 7 => ⟨S64, .f32⟩
  | 8 => ⟨S2, .f32⟩
  | 9 => ⟨S1x6x1024, .f32⟩
  | 10 => ⟨S_, .i32⟩
  | 11 => ⟨S_, .f32⟩
  | 12 => ⟨S8x8x1024, .f32⟩
  | 13 => ⟨S_, .f32⟩
  | 14 => ⟨S128, .f32⟩
  | 15 => ⟨S1x64, .f32⟩
  | 16 => ⟨S8x64, .f32⟩
  | 17 => ⟨S512, .f32⟩
  | 18 => ⟨S1x64, .f32⟩
  | 19 => ⟨S2x64, .f32⟩
  | 20 => ⟨S128, .f32⟩
  | 21 => ⟨S1x64, .f32⟩
  | 22 => ⟨S8x64, .f32⟩
  | 23 => ⟨S512, .f32⟩
  | 24 => ⟨S1x64, .f32⟩
  | 25 => ⟨S2x64, .f32⟩
  | 26 => ⟨S128, .f32⟩
  | 27 => ⟨S1536, .f32⟩
  | 28 => ⟨S1x1536, .f32⟩
  | 29 => ⟨S256, .i32⟩
  | 30 => ⟨S_, .i32⟩
  | 31 => ⟨S256, .i32⟩
  | 32 => ⟨S256, .i32⟩
  | 33 => ⟨S256x1, .i32⟩
  | 34 => ⟨S1x256, .i32⟩
  | 35 => ⟨S256x256, .i32⟩
  | 36 => ⟨S256x256, .i32⟩
  | 37 => ⟨S256x256, .i1⟩
  | 38 => ⟨S256x256, .f32⟩
  | 39 => ⟨S_, .f32⟩
  | 40 => ⟨S256x256, .f32⟩
  | 41 => ⟨S256x256, .f32⟩
  | 42 => ⟨S256x256, .bf16⟩
  | 43 => ⟨S2048, .i32⟩
  | 44 => ⟨S_, .i32⟩
  | 45 => ⟨S_, .i32⟩
  | 46 => ⟨S2048, .i32⟩
  | 47 => ⟨S2048, .i32⟩
  | 48 => ⟨S2048, .i32⟩
  | 49 => ⟨S_, .i32⟩
  | 50 => ⟨S2048, .i32⟩
  | 51 => ⟨S2048, .i1⟩
  | 52 => ⟨S2048, .i32⟩
  | 53 => ⟨S2048, .i32⟩
  | 54 => ⟨S_, .i32⟩
  | 55 => ⟨S2048, .i32⟩
  | 56 => ⟨S2048, .i1⟩
  | 57 => ⟨S2048, .i1⟩
  | 58 => ⟨S_, .i32⟩
  | 59 => ⟨S2048, .i32⟩
  | 60 => ⟨S2048, .i32⟩
  | 61 => ⟨S2048, .i32⟩
  | 62 => ⟨S2048, .f32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i1⟩
  | 74 => ⟨S_, .i32⟩
  | 75 => ⟨S2048, .i32⟩
  | 76 => ⟨S2048, .i1⟩
  | 77 => ⟨S_, .i32⟩
  | 78 => ⟨S_, .i1⟩
  | 79 => ⟨S2048, .i1⟩
  | 80 => ⟨S2048, .i1⟩
  | 81 => ⟨S2048, .i1⟩
  | 82 => ⟨S2048, .i32⟩
  | 83 => ⟨S2048, .i32⟩
  | 84 => ⟨S2048, .i32⟩
  | 85 => ⟨S2048, .f32⟩
  | 86 => ⟨S16, .f32⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x1, .f32⟩
  | 100 => ⟨S1x16, .f32⟩
  | 101 => ⟨S2048x16, .f32⟩
  | 102 => ⟨S2048x16, .f32⟩
  | 103 => ⟨S2048x16, .f32⟩
  | 104 => ⟨S2048x32, .f32⟩
  | 105 => ⟨S2048x32, .f32⟩
  | 106 => ⟨S2048x32x2, .f32⟩
  | 107 => ⟨S2048x64, .f32⟩
  | 108 => ⟨S2048x32, .f32⟩
  | 109 => ⟨S2048x32x2, .f32⟩
  | 110 => ⟨S2048x64, .f32⟩
  | 111 => ⟨S1x2, .f32⟩
  | 112 => ⟨S32x2, .f32⟩
  | 113 => ⟨S64, .f32⟩
  | 114 => ⟨S1x2048x1x64, .f32⟩
  | 115 => ⟨S1x2048x4x64, .f32⟩
  | 116 => ⟨S2048x256, .f32⟩
  | 117 => ⟨S1x64, .f32⟩
  | 118 => ⟨S2048x64, .f32⟩
  | 119 => ⟨S2048x64, .f32⟩
  | 120 => ⟨S1x2048x1x64, .f32⟩
  | 121 => ⟨S1x2048x4x64, .f32⟩
  | 122 => ⟨S2048x256, .f32⟩
  | 123 => ⟨S8192x1024, .f32⟩
  | 124 => ⟨S1x1024, .f32⟩
  | 125 => ⟨S1024x1536, .bf16⟩
  | 126 => ⟨S8192x1024, .bf16⟩
  | 127 => ⟨S32x128x256, .f32⟩
  | _ => ⟨S32x256x1024, .f32⟩

abbrev hbmTy0_1 (i : Nat) : BufTy := match i % 128 with
  | 0 => ⟨S32x128x256, .f32⟩
  | 1 => ⟨S32x128x256, .f32⟩
  | 2 => ⟨S32x128x256, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x8x1024, .f32⟩
  | .local _ .vmem, ⟨3, _⟩ => ⟨S1x1024, .f32⟩
  | .local _ .vmem, ⟨4, _⟩ => ⟨S1024x1536, .bf16⟩
  | .local _ .vmem, ⟨5, _⟩ => ⟨S1x1536, .f32⟩
  | .local _ .vmem, ⟨6, _⟩ => ⟨S256x256, .bf16⟩
  | .local _ .vmem, ⟨7, _⟩ => ⟨S1024x256, .f32⟩
  | .local _ .vmem, ⟨8, _⟩ => ⟨S1024x256, .f32⟩
  | .local _ .vmem, ⟨9, _⟩ => ⟨S1024x1024, .bf16⟩
  | .local _ .vmem, ⟨10, _⟩ => ⟨S1024x1024, .bf16⟩
  | .local _ .vmem, ⟨11, _⟩ => ⟨S4x128x256, .f32⟩
  | .local _ .vmem, ⟨12, _⟩ => ⟨S4x128x256, .f32⟩
  | .local _ .vmem, ⟨13, _⟩ => ⟨S4x128x256, .f32⟩
  | .local _ .vmem, ⟨14, _⟩ => ⟨S4x128x256, .f32⟩
  | .local _ .vmem, ⟨15, _⟩ => ⟨S4x128x256, .f32⟩
  | .local _ .vmem, ⟨16, _⟩ => ⟨S4x128x256, .f32⟩
  | .local _ .vmem, ⟨17, _⟩ => ⟨S4x128x256, .f32⟩
  | .local _ .vmem, ⟨18, _⟩ => ⟨S4x128x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v30 : Ref sig .tc := ⟨.hbm, 61, rfl⟩
abbrev main_v31 : Ref sig .tc := ⟨.hbm, 62, rfl⟩
abbrev main_c_4 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_5 : Ref sig .tc := ⟨.hbm, 88, rfl⟩
abbrev main_v36 : Ref sig .tc := ⟨.hbm, 89, rfl⟩
abbrev main_v37 : Ref sig .tc := ⟨.hbm, 90, rfl⟩
abbrev main_cst_6 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72_0 : Ref sig .tc := ⟨.hbm, 126, rfl⟩
abbrev main_v72_1 : Ref sig .tc := ⟨.hbm, 127, rfl⟩
abbrev main_v72_2 : Ref sig .tc := ⟨.hbm, 128, rfl⟩
abbrev main_v72_3 : Ref sig .tc := ⟨.hbm, 129, rfl⟩
abbrev main_v72_4 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S32x256x1024 : Shape := ⟨3, ![32, 256, 1024]⟩
abbrev S1x6144 : Shape := ⟨2, ![1, 6144]⟩
abbrev S1024 : Shape := ⟨1, ![1024]⟩
abbrev S1024x1536 : Shape := ⟨2, ![1024, 1536]⟩
abbrev S64 : Shape := ⟨1, ![64]⟩
abbrev S1x1x6144 : Shape := ⟨3, ![1, 1, 6144]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x1536 : Shape := ⟨3, ![32, 256, 1536]⟩
abbrev S32x256x512 : Shape := ⟨3, ![32, 256, 512]⟩
abbrev S32x256x128 : Shape := ⟨3, ![32, 256, 128]⟩
abbrev S32x256x8x64 : Shape := ⟨4, ![32, 256, 8, 64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S8192x512 : Shape := ⟨2, ![8192, 512]⟩
abbrev S8192x1024 : Shape := ⟨2, ![8192, 1024]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x2x64x256 : Shape := ⟨4, ![32, 2, 64, 256]⟩
abbrev S32x128x256 : Shape := ⟨3, ![32, 128, 256]⟩

abbrev nBuf : Space → Nat
  | .hbm => 127
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6144, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1x6144, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1536, .f32⟩
  | .hbm, ⟨39, _⟩ => ⟨S32x256x512, .f32⟩
  | .hbm, ⟨40, _⟩ => ⟨S32x256x128, .f32⟩
  | .hbm, ⟨41, _⟩ => ⟨S32x256x128, .f32⟩
  | .hbm, ⟨42, _⟩ => ⟨S32x256x512, .f32⟩
  | .hbm, ⟨43, _⟩ => ⟨S32x256x128, .f32⟩
  | .hbm, ⟨44, _⟩ => ⟨S32x256x128, .f32⟩
  | .hbm, ⟨45, _⟩ => ⟨S32x256x8x64, .f32⟩
  | .hbm, ⟨46, _⟩ => ⟨S32x256x8x64, .f32⟩
  | .hbm, ⟨47, _⟩ => ⟨S_, .f32⟩
  | .hbm, ⟨48, _⟩ => ⟨S32x256x8, .f32⟩
  | .hbm, ⟨49, _⟩ => ⟨S32x256x8x1, .f32⟩
  | .hbm, ⟨50, _⟩ => ⟨S_, .f32⟩
  | .hbm, ⟨51, _⟩ => ⟨S32x256x8x1, .f32⟩
  | .hbm, ⟨52, _⟩ => ⟨S32x256x8x1, .f32⟩
  | .hbm, ⟨53, _⟩ => ⟨S_, .f32⟩
  | .hbm, ⟨54, _⟩ => ⟨S32x256x8x1, .f32⟩
  | .hbm, ⟨55, _⟩ => ⟨S32x256x8x1, .f32⟩
  | .hbm, ⟨56, _⟩ => ⟨S32x256x8x1, .f32⟩
  | .hbm, ⟨57, _⟩ => ⟨S32x256x8x64, .f32⟩
  | .hbm, ⟨58, _⟩ => ⟨S32x256x8x64, .f32⟩
  | .hbm, ⟨59, _⟩ => ⟨S1x1x1x64, .f32⟩
  | .hbm, ⟨60, _⟩ => ⟨S32x256x8x64, .f32⟩
  | .hbm, ⟨61, _⟩ => ⟨S32x256x8x64, .f32⟩
  | .hbm, ⟨62, _⟩ => ⟨S32x256x8x64, .f32⟩
  | .hbm, ⟨63, _⟩ => ⟨S32x256x8x64, .f32⟩
  | .hbm, ⟨64, _⟩ => ⟨S_, .f32⟩
  | .hbm, ⟨65, _⟩ => ⟨S32x256x8, .f32⟩
  | .hbm, ⟨66, _⟩ => ⟨S32x256x8x1, .f32⟩
  | .hbm, ⟨67, _⟩ => ⟨S_, .f32⟩
  | .hbm, ⟨68, _⟩ => ⟨S32x256x8x1, .f32⟩
  | .hbm, ⟨69, _⟩ => ⟨S32x256x8x1, .f32⟩
  | .hbm, ⟨70, _⟩ => ⟨S_, .f32⟩
  | .hbm, ⟨71, _⟩ => ⟨S32x256x8x1, .f32⟩
  | .hbm, ⟨72, _⟩ => ⟨S32x256x8x1, .f32⟩
  | .hbm, ⟨73, _⟩ => ⟨S32x256x8x1, .f32⟩
  | .hbm, ⟨74, _⟩ => ⟨S32x256x8x64, .f32⟩
  | .hbm, ⟨75, _⟩ => ⟨S32x256x8x64, .f32⟩
  | .hbm, ⟨76, _⟩ => ⟨S1x1x1x64, .f32⟩
  | .hbm, ⟨77, _⟩ => ⟨S32x256x8x64, .f32⟩
  | .hbm, ⟨78, _⟩ => ⟨S32x256x8x64, .f32⟩
  | .hbm, ⟨79, _⟩ => ⟨S8192x512, .f32⟩
  | .hbm, ⟨80, _⟩ => ⟨S8192x512, .f32⟩
  | .hbm, ⟨81, _⟩ => ⟨S8192x1024, .f32⟩
  | .hbm, ⟨82, _⟩ => ⟨S8192x1024, .bf16⟩
  | .hbm, ⟨83, _⟩ => ⟨S32x256x2x64, .f32⟩
  | .hbm, ⟨84, _⟩ => ⟨S32x256x2x64, .f32⟩
  | .hbm, ⟨85, _⟩ => ⟨S_, .f32⟩
  | .hbm, ⟨86, _⟩ => ⟨S32x256x2, .f32⟩
  | .hbm, ⟨87, _⟩ => ⟨S32x256x2x1, .f32⟩
  | .hbm, ⟨88, _⟩ => ⟨S_, .f32⟩
  | .hbm, ⟨89, _⟩ => ⟨S32x256x2x1, .f32⟩
  | .hbm, ⟨90, _⟩ => ⟨S32x256x2x1, .f32⟩
  | .hbm, ⟨91, _⟩ => ⟨S_, .f32⟩
  | .hbm, ⟨92, _⟩ => ⟨S32x256x2x1, .f32⟩
  | .hbm, ⟨93, _⟩ => ⟨S32x256x2x1, .f32⟩
  | .hbm, ⟨94, _⟩ => ⟨S32x256x2x1, .f32⟩
  | .hbm, ⟨95, _⟩ => ⟨S32x256x2x64, .f32⟩
  | .hbm, ⟨96, _⟩ => ⟨S32x256x2x64, .f32⟩
  | .hbm, ⟨97, _⟩ => ⟨S1x1x1x64, .f32⟩
  | .hbm, ⟨98, _⟩ => ⟨S32x256x2x64, .f32⟩
  | .hbm, ⟨99, _⟩ => ⟨S32x256x2x64, .f32⟩
  | .hbm, ⟨100, _⟩ => ⟨S32x2x64x256, .f32⟩
  | .hbm, ⟨101, _⟩ => ⟨S32x128x256, .f32⟩
  | .hbm, ⟨102, _⟩ => ⟨S32x256x2x64, .f32⟩
  | .hbm, ⟨103, _⟩ => ⟨S32x2x64x256, .f32⟩
  | .hbm, ⟨104, _⟩ => ⟨S32x128x256, .f32⟩
  | .hbm, ⟨105, _⟩ => ⟨S32x256x2x64, .f32⟩
  | .hbm, ⟨106, _⟩ => ⟨S32x256x2x64, .f32⟩
  | .hbm, ⟨107, _⟩ => ⟨S_, .f32⟩
  | .hbm, ⟨108, _⟩ => ⟨S32x256x2, .f32⟩
  | .hbm, ⟨109, _⟩ => ⟨S32x256x2x1, .f32⟩
  | .hbm, ⟨110, _⟩ => ⟨S_, .f32⟩
  | .hbm, ⟨111, _⟩ => ⟨S32x256x2x1, .f32⟩
  | .hbm, ⟨112, _⟩ => ⟨S32x256x2x1, .f32⟩
  | .hbm, ⟨113, _⟩ => ⟨S_, .f32⟩
  | .hbm, ⟨114, _⟩ => ⟨S32x256x2x1, .f32⟩
  | .hbm, ⟨115, _⟩ => ⟨S32x256x2x1, .f32⟩
  | .hbm, ⟨116, _⟩ => ⟨S32x256x2x1, .f32⟩
  | .hbm, ⟨117, _⟩ => ⟨S32x256x2x64, .f32⟩
  | .hbm, ⟨118, _⟩ => ⟨S32x256x2x64, .f32⟩
  | .hbm, ⟨119, _⟩ => ⟨S1x1x1x64, .f32⟩
  | .hbm, ⟨120, _⟩ => ⟨S32x256x2x64, .f32⟩
  | .hbm, ⟨121, _⟩ => ⟨S32x256x2x64, .f32⟩
  | .hbm, ⟨122, _⟩ => ⟨S32x2x64x256, .f32⟩
  | .hbm, ⟨123, _⟩ => ⟨S32x128x256, .f32⟩
  | .hbm, ⟨124, _⟩ => ⟨S32x256x2x64, .f32⟩
  | .hbm, ⟨125, _⟩ => ⟨S32x2x64x256, .f32⟩
  | .hbm, ⟨126, _⟩ => ⟨S32x128x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_cst_13 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩

abbrev nD : Nat := 1
abbrev τ : Topo := Topo.v7x

variable {F : FTy → Type} [FloatOps F]
-- ==== Proof.FfnPoint.lean ====
/-
  What one grid point of the expert feed-forward kernel computes, over the extended reals. A point takes the rows of one
  expert (four sample batches of 256 rows, 32 prompt batches of 32 rows) and one block of 512 of the expert's 2048 hidden
  units; `part` is that block's contribution to an output element. The first point of an expert leaves the
  contributions in the scratch, the next two add theirs, the last adds its own and writes the outputs.
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Point

open Cert.FfnIdeal Cert.FfnIdeal.Gen Idealize.ShloMosaic Idealize.ShloMosaic.TcCoe Idealize.SL.Sem
open scoped BigOperators

/-- The gated hidden unit: the logistic-weighted gate times the up projection. -/
def gate (g u : EReal) : EReal := g * Ideal.div 1 (1 + Ideal.exp (0 - g)) * u

/-- What the 512 hidden units of one block contribute to output lane `n` of a row `xr`. -/
def part (xr : Fin 1024 → EReal) (wg wu : Vec Ideal S1x1024x512 .f32) (wd : Vec Ideal S1x512x1024 .f32) (n : Fin 1024) : EReal :=
  ∑ f : Fin 512, gate (∑ d : Fin 1024, xr d * wg (ix3 0 d f)) (∑ d : Fin 1024, xr d * wu (ix3 0 d f)) * wd (ix3 0 f n)

/-- Row `r` of the 2048 rows a point works on: the 1024 sample rows, then the 1024 prompt rows. -/
def rowOf (xs : Vec Ideal S4x1x256x1024 .bf16) (xp : Vec Ideal S32x1x32x1024 .bf16) (r : Fin 2048) (d : Fin 1024) : EReal :=
  if h : r.val < 1024 then xs (ix4 ⟨r.val / 256, by omega⟩ 0 ⟨r.val % 256, by omega⟩ d)
  else xp (ix4 ⟨(r.val - 1024) / 32, by omega⟩ 0 ⟨(r.val - 1024) % 32, by omega⟩ d)

/-- A sample row by its batch and place. -/
theorem rowOf_sample (xs : Vec Ideal S4x1x256x1024 .bf16) (xp : Vec Ideal S32x1x32x1024 .bf16) (r : Fin 2048) (b : Fin 4) (q : Fin 256)
    (h : r.val = b.val * 256 + q.val) (d : Fin 1024) : rowOf xs xp r d = xs (ix4 b 0 q d) := by
  unfold rowOf
  rw [dif_pos (by omega)]
  congr 2 <;> apply Fin.ext <;> dsimp only <;> omega

/-- A prompt row by its batch and place. -/
theorem rowOf_prompt (xs : Vec Ideal S4x1x256x1024 .bf16) (xp : Vec Ideal S32x1x32x1024 .bf16) (r : Fin 2048) (b : Fin 32) (q : Fin 32)
    (h : r.val = 1024 + b.val * 32 + q.val) (d : Fin 1024) : rowOf xs xp r d = xp (ix4 b 0 q d) := by
  unfold rowOf
  rw [dif_neg (by omega)]
  congr 2 <;> apply Fin.ext <;> dsimp only <;> omega

/-- `part` depends on its row by values. -/
theorem part_congr {xr xr' : Fin 1024 → EReal} (h : ∀ d, xr d = xr' d) (wg wu : Vec Ideal S1x1024x512 .f32) (wd : Vec Ideal S1x512x1024 .f32)
    {n n' : Fin 1024} (hn : n.val = n'.val) : part xr wg wu wd n = part xr' wg wu wd n' := by
  obtain rfl := funext h
  obtain rfl := Fin.ext hn
  rfl

/-- Two indices of a rank-two array with equal coordinates are one. -/
theorem at2 {A : Vec Ideal S2048x1024 .f32} {y : S2048x1024.Idx} {r : Fin 2048} {n : Fin 1024} (h0 : (y 0).val = r.val) (h1 : (y 1).val = n.val) :
    A (ix2 r n) = A y := by
  congr 1
  funext a
  apply Fin.ext
  match a with
  | ⟨0, _⟩ => exact h0.symm
  | ⟨1, _⟩ => exact h1.symm

/-- Two reads at places with equal coordinates are one. -/
theorem at22 {A : Vec Ideal S2048x1024 .f32} {r r' : Fin 2048} {n n' : Fin 1024} (h0 : r.val = r'.val) (h1 : n.val = n'.val) :
    A (ix2 r n) = A (ix2 r' n') := by
  obtain rfl := Fin.ext h0
  obtain rfl := Fin.ext h1
  rfl

/-- The first point of an expert leaves in the scratch its block's contributions. -/
theorem scratch_first (c : Dev nD) (i : grid0.Coords) (arg2 : Memref sig .tc .vmem S4x1x256x1024 .bf16) (harg2 : arg2.IsWhole) (arg3 : Memref sig .tc .vmem S32x1x32x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4x1x256x1024 .bf16) (harg7 : arg7.IsWhole) (arg8 : Memref sig .tc .vmem S32x1x32x1024 .bf16) (harg8 : arg8.IsWhole) (arg9 : Memref sig .tc .vmem S2048x1024 .f32) (harg9 : arg9.IsWhole) (hc0 : cond0_0 i) (hc1 : ¬cond0_1 i) (hc2 : ¬cond0_2 i)
    (x0 : Vec Ideal S4x1x256x1024 .bf16) (x1 : Vec Ideal S32x1x32x1024 .bf16) (x2 : Vec Ideal S1x1024x512 .f32) (x3 : Vec Ideal S1x1024x512 .f32) (x4 : Vec Ideal S1x512x1024 .f32) :
    sout0_A_0 c i arg2 harg2 arg3 harg3 arg4 harg4 arg5 harg5 arg6 harg6 arg7 harg7 arg8 harg8 arg9 harg9 hc0 hc1 hc2 x0 x1 x2 x3 x4
      = fun y => part (rowOf x0 x1 (y 0)) x2 x3 x4 (y 1) := by
  frame_out
  funext y
  canon_tiles x h
  · unfold k0_pay1 k0_pay12 k0_pay4 k0_pay5 k0_pay6
    pointwise
    refine part_congr (fun d => (rowOf_prompt _ _ _ _ _ ?_ d).symm) _ _ _ h1.symm
    dsimp only; omega
  · unfold k0_pay11 k0_pay4 k0_pay5 k0_pay6
    pointwise
    refine part_congr (fun d => (rowOf_prompt _ _ _ _ _ ?_ d).symm) _ _ _ h1.symm
    dsimp only; omega
  · unfold k0_pay10 k0_pay9 k0_pay8 k0_pay4 k0_pay5 k0_pay6
    pointwise
    refine part_congr (fun d => (rowOf_sample _ _ _ _ _ ?_ d).symm) _ _ _ h1.symm
    dsimp only; omega
  · unfold k0_pay7 k0_pay4 k0_pay5 k0_pay6
    pointwise
    refine part_congr (fun d => (rowOf_sample _ _ _ _ _ ?_ d).symm) _ _ _ h1.symm
    dsimp only; omega

/-- The middle points add their block's contributions to the scratch. -/
theorem scratch_middle (c : Dev nD) (i : grid0.Coords) (arg2 : Memref sig .tc .vmem S4x1x256x1024 .bf16) (harg2 : arg2.IsWhole) (arg3 : Memref sig .tc .vmem S32x1x32x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4x1x256x1024 .bf16) (harg7 : arg7.IsWhole) (arg8 : Memref sig .tc .vmem S32x1x32x1024 .bf16) (harg8 : arg8.IsWhole) (arg9 : Memref sig .tc .vmem S2048x1024 .f32) (harg9 : arg9.IsWhole) (hc0 : ¬cond0_0 i) (hc1 : cond0_1 i) (hc2 : ¬cond0_2 i)
    (x0 : Vec Ideal S4x1x256x1024 .bf16) (x1 : Vec Ideal S32x1x32x1024 .bf16) (x2 : Vec Ideal S1x1024x512 .f32) (x3 : Vec Ideal S1x1024x512 .f32) (x4 : Vec Ideal S1x512x1024 .f32) (xs0 : Vec Ideal S2048x1024 .f32) :
    sout0_B_0 c i arg2 harg2 arg3 harg3 arg4 harg4 arg5 harg5 arg6 harg6 arg7 harg7 arg8 harg8 arg9 harg9 hc0 hc1 hc2 x0 x1 x2 x3 x4 xs0
      = fun y => xs0 y + part (rowOf x0 x1 (y 0)) x2 x3 x4 (y 1) := by
  frame_out
  funext y
  canon_tiles x h
  all_goals
    open_payloads
    pointwise
    refine congrArg₂ (· + ·) (at2 ?_ ?_) (part_congr (fun d => ?_) _ _ _ h1.symm)
  any_goals (dsimp only; omega)
  iterate 2 exact (rowOf_prompt _ _ _ _ _ (by dsimp only; omega) d).symm
  iterate 2 exact (rowOf_sample _ _ _ _ _ (by dsimp only; omega) d).symm

/-- The last point writes to the sample output the scratch plus its block's contributions. -/
theorem sample_last (c : Dev nD) (i : grid0.Coords) (arg2 : Memref sig .tc .vmem S4x1x256x1024 .bf16) (harg2 : arg2.IsWhole) (arg3 : Memref sig .tc .vmem S32x1x32x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4x1x256x1024 .bf16) (harg7 : arg7.IsWhole) (arg8 : Memref sig .tc .vmem S32x1x32x1024 .bf16) (harg8 : arg8.IsWhole) (arg9 : Memref sig .tc .vmem S2048x1024 .f32) (harg9 : arg9.IsWhole) (hc0 : ¬cond0_0 i) (hc1 : ¬cond0_1 i) (hc2 : cond0_2 i)
    (x0 : Vec Ideal S4x1x256x1024 .bf16) (x1 : Vec Ideal S32x1x32x1024 .bf16) (x2 : Vec Ideal S1x1024x512 .f32) (x3 : Vec Ideal S1x1024x512 .f32) (x4 : Vec Ideal S1x512x1024 .f32) (xs0 : Vec Ideal S2048x1024 .f32) :
    out0_C_5 c i arg2 harg2 arg3 harg3 arg4 harg4 arg5 harg5 arg6 harg6 arg7 harg7 arg8 harg8 arg9 harg9 hc0 hc1 hc2 x0 x1 x2 x3 x4 xs0
      = fun y => xs0 (ix2 ⟨(y 0).val * 256 + (y 2).val, by have : (y 0).val < 4 := (y 0).isLt; have : (y 2).val < 256 := (y 2).isLt; omega⟩ (y 3))
          + part (fun d => x0 (ix4 (y 0) 0 (y 2) d)) x2 x3 x4 (y 3) := by
  frame_out
  funext y
  canon_tiles x h
  all_goals
    open_payloads
    pointwise
    refine congrArg₂ (· + ·) (at22 (by dsimp only; omega) h3.symm) (part_congr (fun d => ?_) _ _ _ h3.symm)
    congr 2 <;> apply Fin.ext <;> (try dsimp only) <;> omega

/-- The last point writes to the prompt output the scratch plus its block's contributions. -/
theorem prompt_last (c : Dev nD) (i : grid0.Coords) (arg2 : Memref sig .tc .vmem S4x1x256x1024 .bf16) (harg2 : arg2.IsWhole) (arg3 : Memref sig .tc .vmem S32x1x32x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S4x1x256x1024 .bf16) (harg7 : arg7.IsWhole) (arg8 : Memref sig .tc .vmem S32x1x32x1024 .bf16) (harg8 : arg8.IsWhole) (arg9 : Memref sig .tc .vmem S2048x1024 .f32) (harg9 : arg9.IsWhole) (hc0 : ¬cond0_0 i) (hc1 : ¬cond0_1 i) (hc2 : cond0_2 i)
    (x0 : Vec Ideal S4x1x256x1024 .bf16) (x1 : Vec Ideal S32x1x32x1024 .bf16) (x2 : Vec Ideal S1x1024x512 .f32) (x3 : Vec Ideal S1x1024x512 .f32) (x4 : Vec Ideal S1x512x1024 .f32) (xs0 : Vec Ideal S2048x1024 .f32) :
    out0_C_6 c i arg2 harg2 arg3 harg3 arg4 harg4 arg5 harg5 arg6 harg6 arg7 harg7 arg8 harg8 arg9 harg9 hc0 hc1 hc2 x0 x1 x2 x3 x4 xs0
      = fun y => xs0 (ix2 ⟨1024 + (y 0).val * 32 + (y 2).val, by have : (y 0).val < 32 := (y 0).isLt; have : (y 2).val < 32 := (y 2).isLt; omega⟩ (y 3))
          + part (fun d => x1 (ix4 (y 0) 0 (y 2) d)) x2 x3 x4 (y 3) := by
  frame_out
  funext y
  canon_tiles x h
  all_goals
    open_payloads
    pointwise
    refine congrArg₂ (· + ·) (at22 (by dsimp only; omega) h3.symm) (part_congr (fun d => ?_) _ _ _ h3.symm)
    congr 2 <;> apply Fin.ext <;> (try dsimp only) <;> omega

end Cert.FfnIdeal.Point

end
-- ==== Proof.FfnFold.lean ====
/-
  The expert feed-forward kernel's result arrays over the extended reals: the contributions of an expert's four blocks
  of hidden units, accumulated over its four grid points, are the whole sum over its 2048 hidden units.
-/
module

public import proofs.«01_k».proof.Proof.FfnPoint
public import Idealize.ShloMosaic.Lib.Pipeline.Value

@[expose] public section

set_option maxRecDepth 16384

noncomputable section

namespace Cert.FfnIdeal.Fold

open Cert.FfnIdeal Cert.FfnIdeal.Gen Cert.FfnIdeal.Point Idealize.ShloMosaic Idealize.ShloMosaic.TcCoe Idealize.SL.Sem
open scoped BigOperators

/-- Output lane `n` of expert `e`'s feed-forward of a row: the sum over its 2048 hidden units. -/
def expert (xr : Fin 1024 → EReal) (wg wu : Vec Ideal S16x1024x2048 .f32) (wd : Vec Ideal S16x2048x1024 .f32) (e : Fin 16) (n : Fin 1024) : EReal :=
  ∑ f : Fin 2048, gate (∑ d : Fin 1024, xr d * wg (ix3 e d f)) (∑ d : Fin 1024, xr d * wu (ix3 e d f)) * wd (ix3 e f n)

/-- A sum over 2048 is the sums over its four blocks of 512, added in order. -/
theorem sum_blocks (g : Fin 2048 → EReal) : ∑ f : Fin 2048, g f
    = (((∑ f : Fin 512, g ⟨512 * 0 + f.val, by omega⟩) + ∑ f : Fin 512, g ⟨512 * 1 + f.val, by omega⟩)
        + ∑ f : Fin 512, g ⟨512 * 2 + f.val, by omega⟩) + ∑ f : Fin 512, g ⟨512 * 3 + f.val, by omega⟩ := by
  have h := Fin.sum_univ_add (a := 512 + 512 + 512) (b := 512) g
  rw [Fin.sum_univ_add (a := 512 + 512) (b := 512), Fin.sum_univ_add (a := 512) (b := 512)] at h
  refine h.trans ?_
  refine congrArg₂ (· + ·) (congrArg₂ (· + ·) (congrArg₂ (· + ·) ?_ ?_) ?_) ?_
  all_goals
    refine Finset.sum_congr rfl fun f _ => congrArg g (Fin.ext ?_)
    simp only [Fin.val_castAdd, Fin.val_natAdd, Nat.mul_zero, Nat.zero_add]

variable (m : (ℓ : Loc nD τ sig) → Buf (Elt Ideal) ℓ)

/-- The printed index maps: point `t` is expert `t / 4`, block `t % 4`. -/
theorem maps : ∀ t : Fin cfg0.N,
    (win0_0.index t 0 = 0 ∧ win0_0.index t 1 = t.val / 4 ∧ win0_0.index t 2 = 0 ∧ win0_0.index t 3 = 0)
    ∧ (win0_1.index t 0 = 0 ∧ win0_1.index t 1 = t.val / 4 ∧ win0_1.index t 2 = 0 ∧ win0_1.index t 3 = 0)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4)
    ∧ (win0_4.index t 0 = t.val / 4 ∧ win0_4.index t 1 = t.val % 4 ∧ win0_4.index t 2 = 0) :=
  (by decide +kernel : ∀ t : Fin grid0.N, _)

/-- The sample rows of point `t`: those of its expert. -/
theorem blk_sample (c : Dev nD) (t : Fin cfg0.N) (e : Fin 16) (he : e.val = t.val / 4) (b : Fin 4) (q : Fin 256) (d : Fin 1024) :
    (iblk m c 0 t : Vec Ideal S4x1x256x1024 .bf16) (ix4 b 0 q d) = m ((c : Thread nD τ).loc main_arg0) (ix4 b e q d) := by
  obtain ⟨⟨i0, i1, i2, i3⟩, -⟩ := maps t
  unfold iblk
  rw [View.read_apply]
  show V m c main_arg0 _ = _
  rw [V_main_arg0]
  congr 1
  funext a
  apply Fin.ext
  match a with
  | ⟨0, _⟩ => show win0_0.index t 0 * 4 + 1 * b.val = b.val; omega
  | ⟨1, _⟩ => show win0_0.index t 1 * 1 + 1 * 0 = e.val; omega
  | ⟨2, _⟩ => show win0_0.index t 2 * 256 + 1 * q.val = q.val; omega
  | ⟨3, _⟩ => show win0_0.index t 3 * 1024 + 1 * d.val = d.val; omega

/-- The prompt rows of point `t`: those of its expert. -/
theorem blk_prompt (c : Dev nD) (t : Fin cfg0.N) (e : Fin 16) (he : e.val = t.val / 4) (b : Fin 32) (q : Fin 32) (d : Fin 1024) :
    (iblk m c 1 t : Vec Ideal S32x1x32x1024 .bf16) (ix4 b 0 q d) = m ((c : Thread nD τ).loc main_arg1) (ix4 b e q d) := by
  obtain ⟨-, ⟨i0, i1, i2, i3⟩, -⟩ := maps t
  unfold iblk
  rw [View.read_apply]
  show V m c main_arg1 _ = _
  rw [V_main_arg1]
  congr 1
  funext a
  apply Fin.ext
  match a with
  | ⟨0, _⟩ => show win0_1.index t 0 * 32 + 1 * b.val = b.val; omega
  | ⟨1, _⟩ => show win0_1.index t 1 * 1 + 1 * 0 = e.val; omega
  | ⟨2, _⟩ => show win0_1.index t 2 * 32 + 1 * q.val = q.val; omega
  | ⟨3, _⟩ => show win0_1.index t 3 * 1024 + 1 * d.val = d.val; omega

/-- The gate weights of point `t`: its expert's, its block's columns. -/
theorem blk_gate (c : Dev nD) (t : Fin cfg0.N) (e : Fin 16) (he : e.val = t.val / 4) (d : Fin 1024) (f : Fin 512) (f' : Fin 2048)
    (hf : f'.val = 512 * (t.val % 4) + f.val) :
    (iblk m c 2 t : Vec Ideal S1x1024x512 .f32) (ix3 0 d f) = m ((c : Thread nD τ).loc main_arg2) (ix3 e d f') := by
  obtain ⟨-, -, ⟨i0, i1, i2⟩, -⟩ := maps t
  unfold iblk
  rw [View.read_apply]
  show V m c main_arg2 _ = _
  rw [V_main_arg2]
  congr 1
  funext a
  apply Fin.ext
  match a with
  | ⟨0, _⟩ => show win0_2.index t 0 * 1 + 1 * 0 = e.val; omega
  | ⟨1, _⟩ => show win0_2.index t 1 * 1024 + 1 * d.val = d.val; omega
  | ⟨2, _⟩ => show win0_2.index t 2 * 512 + 1 * f.val = f'.val; omega

/-- The up weights of point `t`: its expert's, its block's columns. -/
theorem blk_up (c : Dev nD) (t : Fin cfg0.N) (e : Fin 16) (he : e.val = t.val / 4) (d : Fin 1024) (f : Fin 512) (f' : Fin 2048)
    (hf : f'.val = 512 * (t.val % 4) + f.val) :
    (iblk m c 3 t : Vec Ideal S1x1024x512 .f32) (ix3 0 d f) = m ((c : Thread nD τ).loc main_arg3) (ix3 e d f') := by
  obtain ⟨-, -, -, ⟨i0, i1, i2⟩, -⟩ := maps t
  unfold iblk
  rw [View.read_apply]
  show V m c main_arg3 _ = _
  rw [V_main_arg3]
  congr 1
  funext a
  apply Fin.ext
  match a with
  | ⟨0, _⟩ => show win0_3.index t 0 * 1 + 1 * 0 = e.val; omega
  | ⟨1, _⟩ => show win0_3.index t 1 * 1024 + 1 * d.val = d.val; omega
  | ⟨2, _⟩ => show win0_3.index t 2 * 512 + 1 * f.val = f'.val; omega

/-- The down weights of point `t`: its expert's, its block's rows. -/
theorem blk_down (c : Dev nD) (t : Fin cfg0.N) (e : Fin 16) (he : e.val = t.val / 4) (f : Fin 512) (f' : Fin 2048) (n : Fin 1024)
    (hf : f'.val = 512 * (t.val % 4) + f.val) :
    (iblk m c 4 t : Vec Ideal S1x512x1024 .f32) (ix3 0 f n) = m ((c : Thread nD τ).loc main_arg4) (ix3 e f' n) := by
  obtain ⟨-, -, -, -, ⟨i0, i1, i2⟩⟩ := maps t
  unfold iblk
  rw [View.read_apply]
  show V m c main_arg4 _ = _
  rw [V_main_arg4]
  congr 1
  funext a
  apply Fin.ext
  match a with
  | ⟨0, _⟩ => show win0_4.index t 0 * 1 + 1 * 0 = e.val; omega
  | ⟨1, _⟩ => show win0_4.index t 1 * 512 + 1 * f.val = f'.val; omega
  | ⟨2, _⟩ => show win0_4.index t 2 * 1024 + 1 * n.val = n.val; omega

/-- Point `t`'s contribution to lane `n` of a row, over the arguments: its block of the expert's hidden units. -/
theorem part_blk (c : Dev nD) (t : Fin cfg0.N) (e : Fin 16) (j : Fin 4) (ht : t.val = 4 * e.val + j.val) (xr : Fin 1024 → EReal) (n : Fin 1024) :
    part xr (iblk m c 2 t) (iblk m c 3 t) (iblk m c 4 t) n
      = ∑ f : Fin 512, gate (∑ d : Fin 1024, xr d * m ((c : Thread nD τ).loc main_arg2) (ix3 e d ⟨512 * j.val + f.val, by omega⟩))
          (∑ d : Fin 1024, xr d * m ((c : Thread nD τ).loc main_arg3) (ix3 e d ⟨512 * j.val + f.val, by omega⟩))
          * m ((c : Thread nD τ).loc main_arg4) (ix3 e ⟨512 * j.val + f.val, by omega⟩ n) := by
  have he : e.val = t.val / 4 := by omega
  unfold part
  refine Finset.sum_congr rfl fun f _ => ?_
  have hf : 512 * j.val + f.val = 512 * (t.val % 4) + f.val := by omega
  refine congrArg₂ (· * ·) (congrArg₂ gate (Finset.sum_congr rfl fun d _ => congrArg (xr d * ·) ?_) (Finset.sum_congr rfl fun d _ => congrArg (xr d * ·) ?_)) ?_
  · exact blk_gate m c t e he d f ⟨_, by omega⟩ hf
  · exact blk_up m c t e he d f ⟨_, by omega⟩ hf
  · exact blk_down m c t e he f ⟨_, by omega⟩ n hf

/-- The rows of point `t` do not depend on its block. -/
theorem rowOf_blk (c : Dev nD) (t t' : Fin cfg0.N) (h : t.val / 4 = t'.val / 4) (r : Fin 2048) :
    rowOf (iblk m c 0 t) (iblk m c 1 t) r = rowOf (iblk m c 0 t') (iblk m c 1 t') r := by
  have hN : t.val < 64 := lt_of_lt_of_eq t.isLt (show cfg0.N = 64 from N_0)
  funext d
  unfold rowOf
  split
  · exact (blk_sample m c t ⟨t.val / 4, by omega⟩ rfl _ _ _).trans (blk_sample m c t' ⟨t.val / 4, by omega⟩ h _ _ _).symm
  · exact (blk_prompt m c t ⟨t.val / 4, by omega⟩ rfl _ _ _).trans (blk_prompt m c t' ⟨t.val / 4, by omega⟩ h _ _ _).symm

/-- What an expert's third point leaves in the scratch: the contributions of its first three blocks. -/
theorem scratch_three (c : Dev nD) (e : ℕ) (h : 4 * e + 3 < cfg0.N) (y : S2048x1024.Idx) :
    (outsAt0 m c (4 * e + 2) (by omega)).2.2 y
      = (part (rowOf (iblk m c 0 ⟨4 * e, by omega⟩) (iblk m c 1 ⟨4 * e, by omega⟩) (y 0)) (iblk m c 2 ⟨4 * e, by omega⟩) (iblk m c 3 ⟨4 * e, by omega⟩) (iblk m c 4 ⟨4 * e, by omega⟩) (y 1)
        + part (rowOf (iblk m c 0 ⟨4 * e + 1, by omega⟩) (iblk m c 1 ⟨4 * e + 1, by omega⟩) (y 0)) (iblk m c 2 ⟨4 * e + 1, by omega⟩) (iblk m c 3 ⟨4 * e + 1, by omega⟩) (iblk m c 4 ⟨4 * e + 1, by omega⟩) (y 1))
        + part (rowOf (iblk m c 0 ⟨4 * e + 2, by omega⟩) (iblk m c 1 ⟨4 * e + 2, by omega⟩) (y 0)) (iblk m c 2 ⟨4 * e + 2, by omega⟩) (iblk m c 3 ⟨4 * e + 2, by omega⟩) (iblk m c 4 ⟨4 * e + 2, by omega⟩) (y 1) := by
  rw [outsAt0_B m c ⟨4 * e + 2, by omega⟩ (by dsimp only; omega) (by dsimp only; omega) (by dsimp only; omega)]
  dsimp only
  rw [scratch_middle]
  refine congrArg (· + _) ?_
  show (outsAt0 m c (4 * e + 1) _).2.2 y = _
  rw [outsAt0_B m c ⟨4 * e + 1, by omega⟩ (by dsimp only; omega) (by dsimp only; omega) (by dsimp only; omega)]
  dsimp only
  rw [scratch_middle]
  refine congrArg (· + _) ?_
  show (outsAt0 m c (4 * e) _).2.2 y = _
  rw [outsAt0_A m c ⟨4 * e, by omega⟩ (by dsimp only; omega) (by dsimp only; omega) (by dsimp only; omega)]
  dsimp only
  rw [scratch_first]

/-- The four blocks' contributions to lane `n` of a row are the expert's feed-forward of the row. -/
theorem parts_expert (c : Dev nD) (e : Fin 16) (t0 t1 t2 t3 : Fin cfg0.N) (h0 : t0.val = 4 * e.val) (h1 : t1.val = 4 * e.val + 1)
    (h2 : t2.val = 4 * e.val + 2) (h3 : t3.val = 4 * e.val + 3) (xr : Fin 1024 → EReal) (n : Fin 1024) :
    ((part xr (iblk m c 2 t0) (iblk m c 3 t0) (iblk m c 4 t0) n + part xr (iblk m c 2 t1) (iblk m c 3 t1) (iblk m c 4 t1) n)
        + part xr (iblk m c 2 t2) (iblk m c 3 t2) (iblk m c 4 t2) n) + part xr (iblk m c 2 t3) (iblk m c 3 t3) (iblk m c 4 t3) n
      = expert xr (m ((c : Thread nD τ).loc main_arg2)) (m ((c : Thread nD τ).loc main_arg3)) (m ((c : Thread nD τ).loc main_arg4)) e n := by
  unfold expert
  rw [sum_blocks, part_blk m c t0 e 0 h0, part_blk m c t1 e 1 h1, part_blk m c t2 e 2 h2, part_blk m c t3 e 3 h3]
  rfl

/-- The sample result: every row's feed-forward by its expert. -/
def sample (c : Dev nD) : Buf (Elt Ideal) ((c : Thread nD τ).loc main_v0_0) := fun i =>
  expert (fun d => m ((c : Thread nD τ).loc main_arg0) (ix4 (i 0) (i 1) (i 2) d)) (m ((c : Thread nD τ).loc main_arg2))
    (m ((c : Thread nD τ).loc main_arg3)) (m ((c : Thread nD τ).loc main_arg4)) (i 1) (i 3)

/-- The prompt result: every row's feed-forward by its expert. -/
def prompt (c : Dev nD) : Buf (Elt Ideal) ((c : Thread nD τ).loc main_v0_1) := fun i =>
  expert (fun d => m ((c : Thread nD τ).loc main_arg1) (ix4 (i 0) (i 1) (i 2) d)) (m ((c : Thread nD τ).loc main_arg2))
    (m ((c : Thread nD τ).loc main_arg3)) (m ((c : Thread nD τ).loc main_arg4)) (i 1) (i 3)

/-- The fold read at the point that writes an index's block back is that function, on the sample rows. -/
theorem sample_eq (c : Dev nD) : Value.G5 m c = sample m c := by
  funext i
  have hi0 : (i 0).val < 4 := (i 0).isLt
  have hi1 : (i 1).val < 16 := (i 1).isLt
  have hi2 : (i 2).val < 256 := (i 2).isLt
  have hi3 : (i 3).val < 1024 := (i 3).isLt
  have hp : Value.pt5Of i = 4 * (i 1).val + 3 := by unfold Value.pt5Of Value.run5Of; omega
  have hlt : 4 * (i 1).val + 3 < cfg0.N := by rw [show cfg0.N = 64 from N_0]; omega
  unfold Value.G5
  rw [dif_pos (by rw [hp]; exact hlt), Value.fold0_congr m c _ _ _ (by rw [Nat.zero_add]; exact hlt) hp, ← Value.outsAt0_sweep m c _ hlt]
  rw [outsAt0_C m c ⟨4 * (i 1).val + 3, hlt⟩ (by dsimp only; omega) (by dsimp only; omega) (by dsimp only; omega)]
  dsimp only
  rw [sample_last]
  dsimp only
  show (outsAt0 m c (4 * (i 1).val + 2) _).2.2 _ + _ = _
  rw [scratch_three m c (i 1).val hlt]
  have hrow : ∀ (t : Fin cfg0.N), t.val / 4 = (i 1).val → ∀ (r : Fin 2048), r.val = (i 0).val * 256 + (i 2).val →
      rowOf (iblk m c 0 t) (iblk m c 1 t) r = fun d => m ((c : Thread nD τ).loc main_arg0) (ix4 (i 0) (i 1) (i 2) d) := by
    intro t ht r hr
    funext d
    rw [rowOf_sample _ _ r ⟨(i 0).val, hi0⟩ ⟨(i 2).val, hi2⟩ hr]
    exact blk_sample m c t (i 1) ht.symm _ _ d
  have hlast : (fun d => (iblk m c 0 ⟨4 * (i 1).val + 3, hlt⟩ : Vec Ideal S4x1x256x1024 .bf16)
        (ix4 ⟨(i 0).val % 4, by omega⟩ 0 ⟨(i 2).val % 256, by omega⟩ d))
      = fun d => m ((c : Thread nD τ).loc main_arg0) (ix4 (i 0) (i 1) (i 2) d) := by
    funext d
    rw [blk_sample m c ⟨4 * (i 1).val + 3, hlt⟩ (i 1) (by dsimp only; omega)]
    congr 2 <;> apply Fin.ext <;> dsimp only <;> omega
  have hn : (⟨(i 3).val % 1024, by omega⟩ : Fin 1024) = i 3 := Fin.ext (by dsimp only; omega)
  have e := parts_expert m c (i 1) ⟨4 * (i 1).val, by omega⟩ ⟨4 * (i 1).val + 1, by omega⟩ ⟨4 * (i 1).val + 2, by omega⟩ ⟨4 * (i 1).val + 3, hlt⟩
    rfl rfl rfl rfl (fun d => m ((c : Thread nD τ).loc main_arg0) (ix4 (i 0) (i 1) (i 2) d)) (i 3)
  refine Eq.trans ?_ e
  have hr : (i 0).val % 4 * 256 + (i 2).val % 256 = (i 0).val * 256 + (i 2).val := by omega
  refine congrArg₂ (· + ·) (congrArg₂ (· + ·) (congrArg₂ (· + ·) ?_ ?_) ?_) (congrArg₂ (fun xr n => part xr _ _ _ n) hlast hn)
  · exact congrArg₂ (fun xr n => part xr _ _ _ n) (hrow _ (by dsimp only; omega) _ hr) hn
  · exact congrArg₂ (fun xr n => part xr _ _ _ n) (hrow _ (by dsimp only; omega) _ hr) hn
  · exact congrArg₂ (fun xr n => part xr _ _ _ n) (hrow _ (by dsimp only; omega) _ hr) hn

/-- The fold read at the point that writes an index's block back is that function, on the prompt rows. -/
theorem prompt_eq (c : Dev nD) : Value.G6 m c = prompt m c := by
  funext i
  have hi0 : (i 0).val < 32 := (i 0).isLt
  have hi1 : (i 1).val < 16 := (i 1).isLt
  have hi2 : (i 2).val < 32 := (i 2).isLt
  have hi3 : (i 3).val < 1024 := (i 3).isLt
  have hp : Value.pt6Of i = 4 * (i 1).val + 3 := by unfold Value.pt6Of Value.run6Of; omega
  have hlt : 4 * (i 1).val + 3 < cfg0.N := by rw [show cfg0.N = 64 from N_0]; omega
  unfold Value.G6
  rw [dif_pos (by rw [hp]; exact hlt), Value.fold0_congr m c _ _ _ (by rw [Nat.zero_add]; exact hlt) hp, ← Value.outsAt0_sweep m c _ hlt]
  rw [outsAt0_C m c ⟨4 * (i 1).val + 3, hlt⟩ (by dsimp only; omega) (by dsimp only; omega) (by dsimp only; omega)]
  dsimp only
  rw [prompt_last]
  dsimp only
  show (outsAt0 m c (4 * (i 1).val + 2) _).2.2 _ + _ = _
  rw [scratch_three m c (i 1).val hlt]
  have hrow : ∀ (t : Fin cfg0.N), t.val / 4 = (i 1).val → ∀ (r : Fin 2048), r.val = 1024 + (i 0).val * 32 + (i 2).val →
      rowOf (iblk m c 0 t) (iblk m c 1 t) r = fun d => m ((c : Thread nD τ).loc main_arg1) (ix4 (i 0) (i 1) (i 2) d) := by
    intro t ht r hr
    funext d
    rw [rowOf_prompt _ _ r ⟨(i 0).val, hi0⟩ ⟨(i 2).val, hi2⟩ hr]
    exact blk_prompt m c t (i 1) ht.symm _ _ d
  have hlast : (fun d => (iblk m c 1 ⟨4 * (i 1).val + 3, hlt⟩ : Vec Ideal S32x1x32x1024 .bf16)
        (ix4 ⟨(i 0).val % 32, by omega⟩ 0 ⟨(i 2).val % 32, by omega⟩ d))
      = fun d => m ((c : Thread nD τ).loc main_arg1) (ix4 (i 0) (i 1) (i 2) d) := by
    funext d
    rw [blk_prompt m c ⟨4 * (i 1).val + 3, hlt⟩ (i 1) (by dsimp only; omega)]
    congr 2 <;> apply Fin.ext <;> dsimp only <;> omega
  have hn : (⟨(i 3).val % 1024, by omega⟩ : Fin 1024) = i 3 := Fin.ext (by dsimp only; omega)
  have e := parts_expert m c (i 1) ⟨4 * (i 1).val, by omega⟩ ⟨4 * (i 1).val + 1, by omega⟩ ⟨4 * (i 1).val + 2, by omega⟩ ⟨4 * (i 1).val + 3, hlt⟩
    rfl rfl rfl rfl (fun d => m ((c : Thread nD τ).loc main_arg1) (ix4 (i 0) (i 1) (i 2) d)) (i 3)
  refine Eq.trans ?_ e
  have hr : 1024 + (i 0).val % 32 * 32 + (i 2).val % 32 = 1024 + (i 0).val * 32 + (i 2).val := by omega
  refine congrArg₂ (· + ·) (congrArg₂ (· + ·) (congrArg₂ (· + ·) ?_ ?_) ?_) (congrArg₂ (fun xr n => part xr _ _ _ n) hlast hn)
  · exact congrArg₂ (fun xr n => part xr _ _ _ n) (hrow _ (by dsimp only; omega) _ hr) hn
  · exact congrArg₂ (fun xr n => part xr _ _ _ n) (hrow _ (by dsimp only; omega) _ hr) hn
  · exact congrArg₂ (fun xr n => part xr _ _ _ n) (hrow _ (by dsimp only; omega) _ hr) hn

end Cert.FfnIdeal.Fold

end
-- ==== Proof.FfnRefValue.lean ====
/-
  The expert feed-forward reference's result arrays over the extended reals: an element is the named function of one
  row and one expert's weights that the kernel's accumulated blocks also come to.
-/
module

public import proofs.«01_k».proof.Proof.FfnFold
public import proofs.«01_k».proof.Proof.Gen.FfnRefIdeal.Read

@[expose] public section

set_option maxRecDepth 16384

noncomputable section

namespace Cert.FfnRefIdeal.Sum

open Cert.FfnRefIdeal Cert.FfnRefIdeal.Read Cert.FfnIdeal.Point Cert.FfnIdeal.Fold Idealize.ShloMosaic Idealize.ShloMosaic.TcCoe Idealize.SL.Sem
open scoped BigOperators

/-- A gated unit with the logistic written over the negated gate. -/
theorem gate_neg (g g' u u' : EReal) (hg : g = g') (hu : u = u') (o : EReal) (ho : o = 1) :
    (g * Ideal.div o (o + Ideal.exp (-g))) * u = gate g' u' := by
  subst hg hu ho
  unfold gate
  rw [zero_sub]

/-- An element of the sample result is its row's feed-forward by its expert. -/
theorem sample_read (x0 : Vec Ideal S4x16x256x1024 .bf16) (x2 x3 : Vec Ideal S16x1024x2048 .f32) (x4 : Vec Ideal S16x2048x1024 .f32) (i : S4x16x256x1024.Idx) :
    val_main_v9 (F := Ideal) x0 x2 x3 x4 i = expert (fun d => x0 (ix4 (i 0) (i 1) (i 2) d)) x2 x3 x4 (i 1) (i 3) := by
  rw [val_main_v9_apply, val_main_v8_apply]
  refine (val_main_v7_apply x0 x2 x3 x4 _).trans ?_
  unfold expert
  refine Finset.sum_congr rfl fun f _ => (mul_comm _ _).trans (congrArg₂ (· * ·) ?_ ?_)
  · rw [val_main_v6_apply, val_main_v5_apply]
    refine gate_neg _ _ _ _ ?_ ?_ _ (Ideal.ofBits_one_f32)
    · rw [val_main_v2_apply, val_main_v1_apply]
      refine Finset.sum_congr rfl fun d _ => (mul_comm _ _).trans (congrArg₂ (· * ·) ?_ ?_)
      · rw [val_main_v0_apply]
        exact congrArg x0 (funext fun a => match a with | ⟨0, _⟩ => rfl | ⟨1, _⟩ => rfl | ⟨2, _⟩ => rfl | ⟨3, _⟩ => rfl)
      · exact congrArg x2 (funext fun a => match a with | ⟨0, _⟩ => rfl | ⟨1, _⟩ => rfl | ⟨2, _⟩ => rfl)
    · rw [val_main_v4_apply, val_main_v3_apply]
      refine Finset.sum_congr rfl fun d _ => (mul_comm _ _).trans (congrArg₂ (· * ·) ?_ ?_)
      · rw [val_main_v0_apply]
        exact congrArg x0 (funext fun a => match a with | ⟨0, _⟩ => rfl | ⟨1, _⟩ => rfl | ⟨2, _⟩ => rfl | ⟨3, _⟩ => rfl)
      · exact congrArg x3 (funext fun a => match a with | ⟨0, _⟩ => rfl | ⟨1, _⟩ => rfl | ⟨2, _⟩ => rfl)
  · exact congrArg x4 (funext fun a => match a with | ⟨0, _⟩ => rfl | ⟨1, _⟩ => rfl | ⟨2, _⟩ => rfl)

/-- An element of the prompt result is its row's feed-forward by its expert. -/
theorem prompt_read (x1 : Vec Ideal S32x16x32x1024 .bf16) (x2 x3 : Vec Ideal S16x1024x2048 .f32) (x4 : Vec Ideal S16x2048x1024 .f32) (i : S32x16x32x1024.Idx) :
    val_main_v19 (F := Ideal) x1 x2 x3 x4 i = expert (fun d => x1 (ix4 (i 0) (i 1) (i 2) d)) x2 x3 x4 (i 1) (i 3) := by
  rw [val_main_v19_apply, val_main_v18_apply]
  refine (val_main_v17_apply x1 x2 x3 x4 _).trans ?_
  unfold expert
  refine Finset.sum_congr rfl fun f _ => (mul_comm _ _).trans (congrArg₂ (· * ·) ?_ ?_)
  · rw [val_main_v16_apply, val_main_v15_apply]
    refine gate_neg _ _ _ _ ?_ ?_ _ (Ideal.ofBits_one_f32)
    · rw [val_main_v12_apply, val_main_v11_apply]
      refine Finset.sum_congr rfl fun d _ => (mul_comm _ _).trans (congrArg₂ (· * ·) ?_ ?_)
      · rw [val_main_v10_apply]
        exact congrArg x1 (funext fun a => match a with | ⟨0, _⟩ => rfl | ⟨1, _⟩ => rfl | ⟨2, _⟩ => rfl | ⟨3, _⟩ => rfl)
      · exact congrArg x2 (funext fun a => match a with | ⟨0, _⟩ => rfl | ⟨1, _⟩ => rfl | ⟨2, _⟩ => rfl)
    · rw [val_main_v14_apply, val_main_v13_apply]
      refine Finset.sum_congr rfl fun d _ => (mul_comm _ _).trans (congrArg₂ (· * ·) ?_ ?_)
      · rw [val_main_v10_apply]
        exact congrArg x1 (funext fun a => match a with | ⟨0, _⟩ => rfl | ⟨1, _⟩ => rfl | ⟨2, _⟩ => rfl | ⟨3, _⟩ => rfl)
      · exact congrArg x3 (funext fun a => match a with | ⟨0, _⟩ => rfl | ⟨1, _⟩ => rfl | ⟨2, _⟩ => rfl)
  · exact congrArg x4 (funext fun a => match a with | ⟨0, _⟩ => rfl | ⟨1, _⟩ => rfl | ⟨2, _⟩ => rfl)

end Cert.FfnRefIdeal.Sum

end
-- ==== Proof.AttnMath.lean ====
/-
  Softmax-weighted means over the extended reals: a quotient of a weighted sum of values by the sum of the weights, and a
  sum of values by normalised weights, are the same function `mix` of the unnormalised weights, at any positive common
  factor of the weights. Values may be any extended real; weights are nonnegative reals.
-/
module

public import Idealize.ShloMosaic.Lib.Pointwise
public import Idealize.ShloMosaic.PureOps.Ideal

@[expose] public section

noncomputable section

namespace Cert.Attend

open Idealize.ShloMosaic
open scoped BigOperators

/-- A number, not an infinity. -/
def Num (x : EReal) : Prop := x = (x.toReal : EReal)

theorem num_coe (r : ℝ) : Num (r : EReal) := by unfold Num; rw [EReal.toReal_coe]

/-- The mean of the values `v` and `u` by the weights `w` and `z`, with a further weight `e` of no value. -/
def mix {α β : Type} [Fintype α] [Fintype β] (w : α → ℝ) (z : β → ℝ) (e : ℝ) (v : α → EReal) (u : β → EReal) : EReal :=
  (∑ a, ((w a / ((∑ a, w a) + (∑ b, z b) + e) : ℝ) : EReal) * v a)
    + ∑ b, ((z b / ((∑ a, w a) + (∑ b, z b) + e) : ℝ) : EReal) * u b

theorem coe_sum {α : Type} (s : Finset α) (f : α → ℝ) : (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- A nonnegative real factor goes into a sum of two extended reals. -/
theorem mul_add_real (c : ℝ) (hc : 0 ≤ c) (x y : EReal) : (c : EReal) * (x + y) = c * x + c * y :=
  EReal.left_distrib_of_nonneg_of_ne_top (EReal.coe_nonneg.2 hc) (EReal.coe_ne_top c) x y

/-- A nonnegative real factor goes into a finite sum of extended reals. -/
theorem mul_sum_real {α : Type} (s : Finset α) (c : ℝ) (hc : 0 ≤ c) (f : α → EReal) : (c : EReal) * (∑ a ∈ s, f a) = ∑ a ∈ s, (c : EReal) * f a := by
  classical
  induction s using Finset.induction_on with
  | empty => simp
  | insert a s ha ih => rw [Finset.sum_insert ha, Finset.sum_insert ha, mul_add_real c hc, ih]

/-- A quotient of two reals, the divisor not zero. -/
theorem div_real (x : EReal) (d : ℝ) (hd : d ≠ 0) : Ideal.div x (d : EReal) = ((d⁻¹ : ℝ) : EReal) * x := by
  unfold Ideal.div
  rw [if_neg (by exact_mod_cast hd), ← EReal.coe_inv, mul_comm]

section Quotient

variable {α β : Type} [Fintype α] [Fintype β] (w : α → ℝ) (z : β → ℝ) (e κ : ℝ) (v : α → EReal) (u : β → EReal)

/-- The quotient of the weighted sum by the sum of the weights. -/
theorem quotient_mix (hκ : 0 < κ) (hD : 0 < (∑ a, w a) + (∑ b, z b) + e)
    (p : α → EReal) (g : β → EReal) (hp : ∀ a, p a = ((w a * κ : ℝ) : EReal)) (hg : ∀ b, g b = ((z b * κ : ℝ) : EReal)) (den : EReal)
    (hden : den = (((∑ a, w a) + (∑ b, z b) + e) * κ : ℝ)) :
    Ideal.div ((∑ a, p a * v a) + ∑ b, g b * u b) den = mix w z e v u := by
  have hDκ := mul_pos hD hκ
  rw [hden, div_real _ _ hDκ.ne', mul_add_real _ (inv_nonneg.2 hDκ.le), mul_sum_real _ _ (inv_nonneg.2 hDκ.le), mul_sum_real _ _ (inv_nonneg.2 hDκ.le)]
  unfold mix
  refine congrArg₂ (· + ·) (Finset.sum_congr rfl fun a _ => ?_) (Finset.sum_congr rfl fun b _ => ?_)
  · rw [hp, ← mul_assoc, ← EReal.coe_mul]
    refine congrArg (fun t : ℝ => (t : EReal) * v a) ?_
    field_simp
  · rw [hg, ← mul_assoc, ← EReal.coe_mul]
    refine congrArg (fun t : ℝ => (t : EReal) * u b) ?_
    field_simp

/-- The sum of the weights as the kernel takes it, the values being ones. -/
theorem sum_ones (p : α → EReal) (g : β → EReal) (hp : ∀ a, p a = ((w a * κ : ℝ) : EReal)) (hg : ∀ b, g b = ((z b * κ : ℝ) : EReal)) :
    (∑ a, p a * 1) + (∑ b, g b * 1) = (((∑ a, w a) + (∑ b, z b)) * κ : ℝ) := by
  simp only [mul_one, hp, hg]
  rw [coe_sum, coe_sum, ← EReal.coe_add, ← Finset.sum_mul, ← Finset.sum_mul, add_mul]

/-- A normalised weight. -/
theorem weight_div (x D : ℝ) (hκ : 0 < κ) (hD : 0 < D) : Ideal.div ((x * κ : ℝ) : EReal) ((D * κ : ℝ) : EReal) = ((x / D : ℝ) : EReal) := by
  rw [div_real _ _ (mul_pos hD hκ).ne', ← EReal.coe_mul]
  congr 1
  field_simp

/-- The order of the two groups of values does not matter. -/
theorem mix_comm : mix w z e v u = mix z w e u v := by
  unfold mix
  rw [add_comm (∑ a, w a) (∑ b, z b), add_comm]

end Quotient

/-- Weights that vanish outside a window: the mean over the window is the mean over everything. -/
theorem mix_window {α β γ : Type} [Fintype α] [Fintype β] [Fintype γ] (f : γ → α) (hf : Function.Injective f) (w : α → ℝ) (z : β → ℝ) (e : ℝ)
    (v : α → EReal) (u : β → EReal) (hw : ∀ a, a ∉ Set.range f → w a = 0) :
    mix (fun c => w (f c)) z e (fun c => v (f c)) u = mix w z e v u := by
  have hs : (∑ c, w (f c)) = ∑ a, w a := Fintype.sum_of_injective f hf _ _ hw fun _ => rfl
  unfold mix
  rw [hs]
  congr 1
  refine Fintype.sum_of_injective f hf _ (fun a => ((w a / ((∑ a, w a) + (∑ b, z b) + e) : ℝ) : EReal) * v a) (fun a ha => ?_) fun _ => rfl
  show ((w a / _ : ℝ) : EReal) * v a = 0
  rw [hw a ha, zero_div, EReal.coe_zero, zero_mul]

/-- A largest element of numbers and minus infinities is a number or minus infinity. -/
theorem fold_max_lt_top {α : Type} (s : Finset α) (f : α → EReal) (hf : ∀ a, f a < ⊤) : s.fold max ⊥ f < ⊤ :=
  (Finset.fold_max_lt _).2 ⟨bot_lt_top, fun a _ => hf a⟩

/-- A largest element is at least each. -/
theorem le_fold_max {α : Type} (s : Finset α) (f : α → EReal) (a : α) (ha : a ∈ s) : f a ≤ s.fold max ⊥ f :=
  Finset.le_fold_max (f a) |>.2 (Or.inr ⟨a, ha, le_rfl⟩)

theorem num_of_lt {x : EReal} (h1 : ⊥ < x) (h2 : x < ⊤) : Num x := (EReal.coe_toReal h2.ne h1.ne').symm

theorem exp2_sub (s m : ℝ) : Ideal.exp2 ((s : EReal) - (m : EReal)) = (((2 : ℝ) ^ s * (2 : ℝ) ^ (-m) : ℝ) : EReal) := by
  rw [← EReal.coe_sub, Ideal.exp2_coe]
  congr 1
  show (2 : ℝ) ^ (s - m) = _
  rw [sub_eq_add_neg, Real.rpow_add (by norm_num)]

theorem exp2_bot_sub (m : ℝ) : Ideal.exp2 ((⊥ : EReal) - (m : EReal)) = 0 := by
  rw [EReal.bot_sub, Ideal.exp2_bot]

theorem exp_sub (s m : ℝ) : Ideal.exp ((s : EReal) - (m : EReal)) = ((Real.exp s * Real.exp (-m) : ℝ) : EReal) := by
  rw [← EReal.coe_sub, Ideal.exp_coe]
  congr 1
  rw [sub_eq_add_neg, Real.exp_add]

/-- Powers of two of a score over `log 2` are exponentials of the score. -/
theorem two_rpow_div (x : ℝ) : (2 : ℝ) ^ (x * (Real.log 2)⁻¹) = Real.exp x := by
  rw [Real.rpow_def_of_pos (by norm_num)]
  congr 1
  have := (Real.log_pos (by norm_num : (1 : ℝ) < 2)).ne'
  field_simp

/-! ## Scores and their weights -/

/-- The weight of a score kept in powers of two; a score of minus infinity weighs nothing. -/
def weight (s : EReal) : ℝ := (Ideal.exp2 s).toReal

theorem weight_coe (x : ℝ) : weight (x : EReal) = (2 : ℝ) ^ x := by
  unfold weight; rw [Ideal.exp2_coe, EReal.toReal_coe]; rfl
theorem weight_bot : weight ⊥ = 0 := by
  unfold weight; rw [Ideal.exp2_bot, EReal.toReal_zero]
theorem weight_nonneg (s : EReal) (hs : s < ⊤) : 0 ≤ weight s := by
  induction s using EReal.rec with
  | bot => rw [weight_bot]
  | coe x => rw [weight_coe]; positivity
  | top => exact absurd hs (lt_irrefl _)

/-- Taking a number off a score divides its weight. -/
theorem exp2_weight (s : EReal) (hs : s < ⊤) (m : EReal) (hm : Num m) : Ideal.exp2 (s - m) = ((weight s * (2 : ℝ) ^ (-m.toReal) : ℝ) : EReal) := by
  rw [hm, EReal.toReal_coe]
  induction s using EReal.rec with
  | bot => rw [exp2_bot_sub, weight_bot, zero_mul, EReal.coe_zero]
  | coe x => rw [exp2_sub, weight_coe]
  | top => exact absurd hs (lt_irrefl _)

/-- The kernel's quotient for one lane of one head. -/
theorem head_mix {α β : Type} [Fintype α] [Fintype β] (s : α → EReal) (t : β → EReal) (hs : ∀ a, s a < ⊤) (ht : ∀ b, t b < ⊤)
    (m : EReal) (hm : Num m) (e : ℝ) (he : 0 ≤ e) (b0 : β) (hb0 : ⊥ < t b0) (v : α → EReal) (u : β → EReal) :
    Ideal.div ((∑ a, Ideal.exp2 (s a - m) * v a) + ∑ b, Ideal.exp2 (t b - m) * u b)
        (((∑ a, Ideal.exp2 (s a - m) * 1) + ∑ b, Ideal.exp2 (t b - m) * 1) + ((e * (2 : ℝ) ^ (-m.toReal) : ℝ) : EReal))
      = mix (fun a => weight (s a)) (fun b => weight (t b)) e v u := by
  have hp := fun a => exp2_weight (s a) (hs a) m hm
  have hg := fun b => exp2_weight (t b) (ht b) m hm
  have hκ : 0 < (2 : ℝ) ^ (-m.toReal) := by positivity
  refine quotient_mix _ _ e _ v u hκ ?_ _ _ hp hg _ ?_
  · have h1 : 0 ≤ ∑ a, weight (s a) := Finset.sum_nonneg fun a _ => weight_nonneg _ (hs a)
    have h2 : weight (t b0) ≤ ∑ b, weight (t b) := Finset.single_le_sum (f := fun b => weight (t b)) (fun b _ => weight_nonneg _ (ht b)) (Finset.mem_univ b0)
    have h3 : 0 < weight (t b0) := by
      rw [num_of_lt hb0 (ht b0), weight_coe]; positivity
    linarith
  · rw [sum_ones (fun a => weight (s a)) (fun b => weight (t b)) _ _ _ hp hg, ← EReal.coe_add, add_mul _ e]

/-- The product of a query and a key, as a number. -/
def score (q k : Fin 64 → EReal) : ℝ := ∑ d, (q d).toReal * (k d).toReal

theorem dot_score (q k : Fin 64 → EReal) (hq : ∀ d, Num (q d)) (hk : ∀ d, Num (k d)) : (∑ d, q d * k d) = (score q k : EReal) := by
  unfold score
  rw [← coe_sum]
  refine Finset.sum_congr rfl fun d _ => ?_
  rw [EReal.coe_mul, ← hq d, ← hk d]

/-- A head's 64 lanes placed in half `e` of 128, the first lane of the other half holding `one` and its rest zero. -/
def halfPad (e : ℕ) (f : Fin 64 → EReal) (one : EReal) (k : Fin 128) : EReal :=
  if k.val / 64 = e then f ⟨k.val % 64, Nat.mod_lt _ (by norm_num)⟩ else if k.val % 64 = 0 then one else 0

/-- Half `e` of 128 lanes. -/
def half (e : ℕ) (he : e < 2) (x : Fin 128 → EReal) (d : Fin 64) : EReal := x ⟨64 * e + d.val, by omega⟩

theorem half_congr {e e' : ℕ} (h : e = e') (he : e < 2) (he' : e' < 2) (x : Fin 128 → EReal) : half e he x = half e' he' x := by
  subst h; rfl

theorem halfPad_own (e : ℕ) (f : Fin 64 → EReal) (one : EReal) (k : Fin 128) (hk : k.val / 64 = e) :
    halfPad e f one k = f ⟨k.val % 64, Nat.mod_lt _ (by norm_num)⟩ := if_pos hk

theorem dot_pad (e : ℕ) (he : e < 2) (x : Fin 128 → EReal) (f : Fin 64 → EReal) : (∑ k, x k * halfPad e f 0 k) = ∑ d, half e he x d * f d := by
  have hsplit := Fin.sum_univ_add (a := 64) (b := 64) (fun k => x k * halfPad e f 0 k)
  refine hsplit.trans ?_
  obtain rfl | rfl : e = 0 ∨ e = 1 := by omega
  · rw [Finset.sum_eq_zero (s := Finset.univ) (f := fun i : Fin 64 => x (Fin.natAdd 64 i) * halfPad 0 f 0 (Fin.natAdd 64 i)), add_zero]
    · refine Finset.sum_congr rfl fun d _ => ?_
      rw [halfPad_own 0 f 0 _ (by show (d.val) / 64 = 0; omega)]
      refine congrArg₂ (· * ·) (congrArg x (Fin.ext ?_)) (congrArg f (Fin.ext ?_))
      · show d.val = 64 * 0 + d.val; omega
      · show d.val % 64 = d.val; omega
    · intro i _
      have : ¬ (Fin.natAdd 64 i : Fin 128).val / 64 = 0 := by show ¬ (64 + i.val) / 64 = 0; omega
      unfold halfPad
      rw [if_neg this, ite_self, mul_zero]
  · rw [Finset.sum_eq_zero (s := Finset.univ) (f := fun i : Fin 64 => x (Fin.castAdd 64 i) * halfPad 1 f 0 (Fin.castAdd 64 i)), zero_add]
    · refine Finset.sum_congr rfl fun d _ => ?_
      rw [halfPad_own 1 f 0 _ (by show (64 + d.val) / 64 = 1; omega)]
      refine congrArg₂ (· * ·) (congrArg x (Fin.ext ?_)) (congrArg f (Fin.ext ?_))
      · show 64 + d.val = 64 * 1 + d.val; omega
      · show (64 + d.val) % 64 = d.val; omega
    · intro i _
      have : ¬ (Fin.castAdd 64 i : Fin 128).val / 64 = 1 := by show ¬ i.val / 64 = 1; omega
      unfold halfPad
      rw [if_neg this, ite_self, mul_zero]

/-- A padded key's product with a row of queries is a score of the row's half. -/
theorem dot_pad_score (e : ℕ) (he : e < 2) (x : Fin 128 → EReal) (f : Fin 64 → EReal) (hx : ∀ k, Num (x k)) (hf : ∀ d, Num (f d)) :
    (∑ k, x k * halfPad e f 0 k) = (score (half e he x) f : EReal) :=
  (dot_pad e he x f).trans (dot_score _ _ (fun _ => hx _) hf)

theorem coe_lt_top' (r : ℝ) : (r : EReal) < ⊤ := EReal.coe_lt_top r

end Cert.Attend

end
-- ==== Proof.AttnPre.lean ====
/-
  What the precondition of the attention claim says of each element: it is a real number.
-/
module

public import proofs.«01_k».proof.Defs
public import proofs.«01_k».proof.Proof.AttnMath

@[expose] public section

noncomputable section

namespace Cert.AttnFinite

open Cert.Pre_attn_finite Cert.Attend Idealize.ShloMosaic

/-- The shape relations the precondition states. -/
theorem facts : Cert.Pre_attn_finite.Facts := ⟨by decide, by decide, by decide, by decide⟩

/-- An element whose magnitude is below infinity is a real number. -/
theorem num_of_abs_lt {x : EReal} (h : max x (-x) < ⊤) : Num x := by
  refine num_of_lt ?_ ((le_max_left _ _).trans_lt h)
  rw [bot_lt_iff_ne_bot]
  rintro rfl
  exact absurd h (by simp)

/-- One array's comparison against infinity, read at an element. -/
theorem finite_read {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (k : s.Idx) : Num (x k) := by
  have hk : Ideal.cmp .olt (max (x k) (-(x k))) (Ideal.ofBits .f32 0x7F800000#32) = 1#1 := congrFun h k
  have top : Ideal.ofBits .f32 0x7F800000#32 = ⊤ := by simp [Ideal.ofBits, Ideal.ieee]
  rw [top] at hk
  refine num_of_abs_lt ?_
  by_contra hn
  simp [Ideal.cmp, hn] at hk

/-- The arrays the precondition names hold real numbers. -/
theorem numbers [Cert.Pre_attn_finite.Facts] (m : (ℓ : Loc Cert.AttnIdeal.nD Cert.AttnIdeal.τ Cert.AttnIdeal.sig) → Buf (Elt Ideal) ℓ)
    (h : Cert.Pre_AttnIdeal_attn_finite m) (c : Dev Cert.AttnIdeal.nD) :
    (∀ k, Num (m (c.tc.loc Cert.AttnIdeal.main_arg0) k)) ∧ (∀ k, Num (m (c.tc.loc Cert.AttnIdeal.main_arg1) k))
    ∧ (∀ k, Num (m (c.tc.loc Cert.AttnIdeal.main_arg2) k)) ∧ (∀ k, Num (m (c.tc.loc Cert.AttnIdeal.main_arg4) k))
    ∧ (∀ k, Num (m (c.tc.loc Cert.AttnIdeal.main_arg5) k)) ∧ (∀ k, Num (m (c.tc.loc Cert.AttnIdeal.main_arg7) k))
    ∧ (∀ k, Num (m (c.tc.loc Cert.AttnIdeal.main_arg9) k)) := by
  obtain ⟨h0, h1, h2, h4, h5, h7, h9⟩ := h c
  exact ⟨finite_read _ _ h0, finite_read _ _ h1, finite_read _ _ h2, finite_read _ _ h4, finite_read _ _ h5, finite_read _ _ h7, finite_read _ _ h9⟩

end Cert.AttnFinite

end
-- ==== Proof.AttnHead.lean ====
/-
  The two kinds of attention head of the layer's attention kernel, as functions of the blocks a grid point holds:
  the head over all keys (`dense…`, 512 query rows) and the head over a window of keys, a context cache and a sink
  (`band…`, 256 query rows). Each is read at one element.
-/
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Head

open Cert.AttnIdeal Cert.AttnIdeal.Gen Idealize.ShloMosaic Idealize.ShloMosaic.TcCoe Idealize.SL.Sem
open scoped BigOperators

section Dense

variable (q : FVec Ideal S512x128 .bf16) (kc vc : FVec Ideal S256x128 .bf16) (kl vl : FVec Ideal S2048x128 .bf16)

/-- Scores against the cached keys. -/
def denseCtx : FVec Ideal S512x256 .f32 :=
  matmul dot_S512x128_S256x128_S512x256_1_1_0_0_n_n none q kc (constant S512x256 .f32 0x00000000#32)
/-- Scores against the sequence's own keys. -/
def denseLat : FVec Ideal S512x2048 .f32 :=
  matmul dot_S512x128_S2048x128_S512x2048_1_1_0_0_n_n none q kl (constant S512x2048 .f32 0x00000000#32)
/-- Each row's largest score. -/
def denseMax : FVec Ideal S512x1 .f32 :=
  maximumf
    (shapeCast S512x1 (multiReduction .maximumf [1] S512 (denseCtx q kc) 0xFF800000#32 reduces_S512x256_S512 (.inl rfl) rfl) shapeCasts_S512_S512x1)
    (shapeCast S512x1 (multiReduction .maximumf [1] S512 (denseLat q kl) 0xFF800000#32 reduces_S512x2048_S512 (.inl rfl) rfl) shapeCasts_S512_S512x1)
/-- The weighted sums of the values, one lane of which holds the weights' sum. -/
def denseAcc : FVec Ideal S512x128 .f32 :=
  addf
    (matmul dot_S512x256_S256x128_S512x128_1_0_0_1_n_n none
      (exp2 (truncf .bf16 (subf (denseCtx q kc) (broadcastTo S512x256 (denseMax q kc kl) broadcasts_S512x1_S512x256)) bitsLt_bf16_f32))
      vc (constant S512x128 .f32 0x00000000#32))
    (matmul dot_S512x2048_S2048x128_S512x128_1_0_0_1_n_n none
      (exp2 (truncf .bf16 (subf (denseLat q kl) (broadcastTo S512x2048 (denseMax q kc kl) broadcasts_S512x1_S512x2048)) bitsLt_bf16_f32))
      vl (constant S512x128 .f32 0x00000000#32))
/-- The head kept in the lower half of the lanes. -/
def denseLow : FVec Ideal S512x128 .f32 :=
  select (xori (xori (cmpi .slt (iota .tc S512x128 32 [1] iota_S512x128_d1_w32) (broadcast S512x128 64#32))
      (broadcastTo S512x128 (broadcast S512x128 1#1) broadcasts_S512x128_S512x128)) (constantI S512x128 1 1#1))
    (divf (denseAcc q kc vc kl vl)
      (broadcastTo S512x128 (extractStridedSlice S512x1 ![0, 64] (denseAcc q kc vc kl vl) slices_S512x128_o0_64_S512x1) broadcasts_S512x1_S512x128))
    (broadcast S512x128 (Scalar.ofBits .f32 0x00000000#32 : Ideal .f32))
/-- The head kept in the upper half of the lanes. -/
def denseHigh : FVec Ideal S512x128 .f32 :=
  select (xori (xori (cmpi .slt (iota .tc S512x128 32 [1] iota_S512x128_d1_w32) (broadcast S512x128 64#32))
      (broadcastTo S512x128 (broadcast S512x128 0#1) broadcasts_S512x128_S512x128)) (constantI S512x128 1 1#1))
    (divf (denseAcc q kc vc kl vl)
      (broadcastTo S512x128 (extractStridedSlice S512x1 ![0, 0] (denseAcc q kc vc kl vl) slices_S512x128_o0_0_S512x1) broadcasts_S512x1_S512x128))
    (broadcast S512x128 (Scalar.ofBits .f32 0x00000000#32 : Ideal .f32))

/-- Two heads side by side. -/
def denseTile (kcl vcl kch vch : FVec Ideal S256x128 .bf16) (kll vll klh vlh : FVec Ideal S2048x128 .bf16) : FVec Ideal S512x128 .bf16 :=
  truncf .bf16 (addf (denseLow q kcl vcl kll vll) (denseHigh q kch vch klh vlh)) bitsLt_bf16_f32

end Dense

section Band

variable (q : FVec Ideal S256x128 .bf16) (kw vw : FVec Ideal S512x128 .bf16) (kc vc : FVec Ideal S256x128 .bf16)
  (mask : IVec S256x512 1) (sink : Ideal .f32)

/-- Scores against the window's keys, the ones out of the band masked. -/
def bandWin : FVec Ideal S256x512 .f32 :=
  select mask (matmul dot_S256x128_S512x128_S256x512_1_1_0_0_n_n none q kw (constant S256x512 .f32 0x00000000#32))
    (broadcast S256x512 (Named.named κ "mask" 0xF149F2CA#32 : Ideal .f32))
/-- Scores against the cached keys. -/
def bandCtx : FVec Ideal S256x256 .f32 :=
  matmul dot_S256x128_S256x128_S256x256_1_1_0_0_n_n none q kc (constant S256x256 .f32 0x00000000#32)
/-- The sink's score in powers of two. -/
def bandSink : Ideal .f32 := Scalar.mulf sink (Named.named κ "log2e" 0x3FB8AA3B#32 : Ideal .f32)
/-- Each row's largest score. -/
def bandMax : FVec Ideal S256x1 .f32 :=
  maximumf
    (maximumf
      (shapeCast S256x1 (multiReduction .maximumf [1] S256 (bandWin q kw mask) 0xFF800000#32 reduces_S256x512_S256 (.inl rfl) rfl) shapeCasts_S256_S256x1)
      (shapeCast S256x1 (multiReduction .maximumf [1] S256 (bandCtx q kc) 0xFF800000#32 reduces_S256x256_S256 (.inl rfl) rfl) shapeCasts_S256_S256x1))
    (broadcast S256x1 (bandSink sink))
/-- The weighted sums of the values, one lane of which holds the sum of the keys' weights. -/
def bandAcc : FVec Ideal S256x128 .f32 :=
  addf
    (matmul dot_S256x512_S512x128_S256x128_1_0_0_1_n_n none
      (exp2 (truncf .bf16 (subf (bandWin q kw mask) (broadcastTo S256x512 (bandMax q kw kc mask sink) broadcasts_S256x1_S256x512)) bitsLt_bf16_f32))
      vw (constant S256x128 .f32 0x00000000#32))
    (matmul dot_S256x256_S256x128_S256x128_1_0_0_1_n_n none
      (exp2 (truncf .bf16 (subf (bandCtx q kc) (broadcastTo S256x256 (bandMax q kw kc mask sink) broadcasts_S256x1_S256x256)) bitsLt_bf16_f32))
      vc (constant S256x128 .f32 0x00000000#32))
/-- The sink's weight. -/
def bandExtra : FVec Ideal S256x1 .f32 := exp2 (subf (broadcast S256x1 (bandSink sink)) (bandMax q kw kc mask sink))
/-- The head kept in the lower half of the lanes. -/
def bandLow : FVec Ideal S256x128 .f32 :=
  select (xori (xori (cmpi .slt (iota .tc S256x128 32 [1] iota_S256x128_d1_w32) (broadcast S256x128 64#32))
      (broadcastTo S256x128 (broadcast S256x128 1#1) broadcasts_S256x128_S256x128)) (constantI S256x128 1 1#1))
    (divf (bandAcc q kw vw kc vc mask sink)
      (broadcastTo S256x128 (addf (extractStridedSlice S256x1 ![0, 64] (bandAcc q kw vw kc vc mask sink) slices_S256x128_o0_64_S256x1)
        (bandExtra q kw kc mask sink)) broadcasts_S256x1_S256x128))
    (broadcast S256x128 (Scalar.ofBits .f32 0x00000000#32 : Ideal .f32))
/-- The head kept in the upper half of the lanes. -/
def bandHigh : FVec Ideal S256x128 .f32 :=
  select (xori (xori (cmpi .slt (iota .tc S256x128 32 [1] iota_S256x128_d1_w32) (broadcast S256x128 64#32))
      (broadcastTo S256x128 (broadcast S256x128 0#1) broadcasts_S256x128_S256x128)) (constantI S256x128 1 1#1))
    (divf (bandAcc q kw vw kc vc mask sink)
      (broadcastTo S256x128 (addf (extractStridedSlice S256x1 ![0, 0] (bandAcc q kw vw kc vc mask sink) slices_S256x128_o0_0_S256x1)
        (bandExtra q kw kc mask sink)) broadcasts_S256x1_S256x128))
    (broadcast S256x128 (Scalar.ofBits .f32 0x00000000#32 : Ideal .f32))

/-- Two heads side by side, each with its own sink. -/
def bandTile (q : FVec Ideal S256x128 .bf16) (kwl vwl kwh vwh : FVec Ideal S512x128 .bf16) (kcl vcl kch vch : FVec Ideal S256x128 .bf16)
    (mask : IVec S256x512 1) (s0 s1 : Ideal .f32) : FVec Ideal S256x128 .bf16 :=
  truncf .bf16 (addf (bandLow q kwl vwl kcl vcl mask s0) (bandHigh q kwh vwh kch vch mask s1)) bitsLt_bf16_f32

end Band

/-! ## The heads read at one element -/

theorem half_bit : ∀ l : Fin 128, IntOp.cmpi CmpIPredicate.slt (BitVec.ofNat 32 ↑l) 64#32 = if l.val < 64 then 1#1 else 0#1 := by decide +kernel
theorem at64_bit : ∀ l : Fin 128, IntOp.cmpi CmpIPredicate.eq (BitVec.ofNat 32 ↑l) 64#32 = if l.val = 64 then 1#1 else 0#1 := by decide +kernel
theorem at0_bit : ∀ l : Fin 128, IntOp.cmpi CmpIPredicate.eq (BitVec.ofNat 32 ↑l) 0#32 = if l.val = 0 then 1#1 else 0#1 := by decide +kernel
theorem own_low : ∀ l : Fin 128, IntOp.xori (IntOp.xori (IntOp.cmpi CmpIPredicate.slt (BitVec.ofNat 32 ↑l) 64#32) 1#1) 1#1 = if l.val < 64 then 1#1 else 0#1 := by decide +kernel
theorem own_high : ∀ l : Fin 128, IntOp.xori (IntOp.xori (IntOp.cmpi CmpIPredicate.slt (BitVec.ofNat 32 ↑l) 64#32) 0#1) 1#1 = if l.val < 64 then 0#1 else 1#1 := by decide +kernel

/-- A choice by a one-bit word that decides `p`. -/
theorem select_if {α : Type} (p : Prop) [Decidable p] (a b : α) : Scalar.select (if p then 1#1 else 0#1) a b = if p then a else b := by
  split <;> rfl
/-- A choice by a one-bit word that decides `p`, the other way round. -/
theorem select_unless {α : Type} (p : Prop) [Decidable p] (a b : α) : Scalar.select (if p then 0#1 else 1#1) a b = if p then b else a := by
  split <;> rfl

theorem negInf : (Ideal.ofBits FTy.f32 4286578688#32 : EReal) = ⊥ := by
  simp [Ideal.ofBits, Ideal.ieee]

section DenseRead

variable (q : FVec Ideal S512x128 .bf16) (kc vc : FVec Ideal S256x128 .bf16) (kl vl : FVec Ideal S2048x128 .bf16)

theorem denseCtx_apply (r : Fin 512) (j : Fin 256) : denseCtx q kc (ix2 r j) = ∑ k : Fin 128, q (ix2 r k) * kc (ix2 j k) := by
  unfold denseCtx
  pointwise
theorem denseLat_apply (r : Fin 512) (j : Fin 2048) : denseLat q kl (ix2 r j) = ∑ k : Fin 128, q (ix2 r k) * kl (ix2 j k) := by
  unfold denseLat
  pointwise
theorem denseMax_apply (r : Fin 512) (z : Fin 1) : denseMax q kc kl (ix2 r z)
    = max (Finset.univ.fold max ⊥ fun j : Fin 256 => denseCtx q kc (ix2 r j)) (Finset.univ.fold max ⊥ fun j : Fin 2048 => denseLat q kl (ix2 r j)) := by
  unfold denseMax
  pointwise
  rw [negInf]
theorem denseAcc_apply (r : Fin 512) (l : Fin 128) : denseAcc q kc vc kl vl (ix2 r l)
    = (∑ j : Fin 256, Ideal.exp2 (denseCtx q kc (ix2 r j) - denseMax q kc kl (ix2 r 0)) * vc (ix2 j l))
      + ∑ j : Fin 2048, Ideal.exp2 (denseLat q kl (ix2 r j) - denseMax q kc kl (ix2 r 0)) * vl (ix2 j l) := by
  unfold denseAcc
  pointwise
  rfl
theorem denseLow_apply (r : Fin 512) (l : Fin 128) : denseLow q kc vc kl vl (ix2 r l)
    = if l.val < 64 then Ideal.div (denseAcc q kc vc kl vl (ix2 r l)) (denseAcc q kc vc kl vl (ix2 r 64)) else 0 := by
  unfold denseLow
  pointwise
  rw [own_low, select_if]
theorem denseHigh_apply (r : Fin 512) (l : Fin 128) : denseHigh q kc vc kl vl (ix2 r l)
    = if l.val < 64 then 0 else Ideal.div (denseAcc q kc vc kl vl (ix2 r l)) (denseAcc q kc vc kl vl (ix2 r 0)) := by
  unfold denseHigh
  pointwise
  rw [own_high, select_unless]

end DenseRead

section BandRead

variable (q : FVec Ideal S256x128 .bf16) (kw vw : FVec Ideal S512x128 .bf16) (kc vc : FVec Ideal S256x128 .bf16)
  (mask : IVec S256x512 1) (sink : Ideal .f32)

theorem bandWin_apply (r : Fin 256) (j : Fin 512) : bandWin q kw mask (ix2 r j)
    = Scalar.select (mask (ix2 r j)) (∑ k : Fin 128, q (ix2 r k) * kw (ix2 j k)) (⊥ : EReal) := by
  unfold bandWin
  pointwise
  rfl
theorem bandCtx_apply (r : Fin 256) (j : Fin 256) : bandCtx q kc (ix2 r j) = ∑ k : Fin 128, q (ix2 r k) * kc (ix2 j k) := by
  unfold bandCtx
  pointwise
theorem bandSink_eq : bandSink sink = sink * (((Real.log 2)⁻¹ : ℝ) : EReal) := rfl
theorem bandMax_apply (r : Fin 256) (z : Fin 1) : bandMax q kw kc mask sink (ix2 r z)
    = max (max (Finset.univ.fold max ⊥ fun j : Fin 512 => bandWin q kw mask (ix2 r j)) (Finset.univ.fold max ⊥ fun j : Fin 256 => bandCtx q kc (ix2 r j)))
        (bandSink sink) := by
  unfold bandMax
  pointwise
  rw [negInf]
theorem bandAcc_apply (r : Fin 256) (l : Fin 128) : bandAcc q kw vw kc vc mask sink (ix2 r l)
    = (∑ j : Fin 512, Ideal.exp2 (bandWin q kw mask (ix2 r j) - bandMax q kw kc mask sink (ix2 r 0)) * vw (ix2 j l))
      + ∑ j : Fin 256, Ideal.exp2 (bandCtx q kc (ix2 r j) - bandMax q kw kc mask sink (ix2 r 0)) * vc (ix2 j l) := by
  unfold bandAcc
  pointwise
  rfl
theorem bandExtra_apply (r : Fin 256) (z : Fin 1) : bandExtra q kw kc mask sink (ix2 r z)
    = Ideal.exp2 (bandSink sink - bandMax q kw kc mask sink (ix2 r z)) := by
  unfold bandExtra
  pointwise
  rfl
theorem bandLow_apply (r : Fin 256) (l : Fin 128) : bandLow q kw vw kc vc mask sink (ix2 r l)
    = if l.val < 64 then Ideal.div (bandAcc q kw vw kc vc mask sink (ix2 r l))
        (bandAcc q kw vw kc vc mask sink (ix2 r 64) + bandExtra q kw kc mask sink (ix2 r 0)) else 0 := by
  unfold bandLow
  pointwise
  rw [own_low, select_if]
theorem bandHigh_apply (r : Fin 256) (l : Fin 128) : bandHigh q kw vw kc vc mask sink (ix2 r l)
    = if l.val < 64 then 0 else Ideal.div (bandAcc q kw vw kc vc mask sink (ix2 r l))
        (bandAcc q kw vw kc vc mask sink (ix2 r 0) + bandExtra q kw kc mask sink (ix2 r 0)) := by
  unfold bandHigh
  pointwise
  rw [own_high, select_unless]

end BandRead

end Cert.AttnIdeal.Head

end
-- ==== Proof.AttnTile.lean ====
/-
  Two heads side by side, as the attention kernel computes them from zero-padded keys and values, are two softmax-weighted
  means: lane `l` belongs to head `l / 64` of the pair.
-/
module

public import proofs.«01_k».proof.Proof.AttnHead
public import proofs.«01_k».proof.Proof.AttnMath

@[expose] public section

set_option maxRecDepth 16384

noncomputable section

namespace Cert.AttnIdeal.Head

open Cert.AttnIdeal Cert.AttnIdeal.Gen Cert.Attend Idealize.ShloMosaic Idealize.ShloMosaic.TcCoe Idealize.SL.Sem
open scoped BigOperators

theorem lane_half (l : Fin 128) : l.val / 64 < 2 := by omega

section Dense

variable (q : FVec Ideal S512x128 .bf16) (kc vc : FVec Ideal S256x128 .bf16) (kl vl : FVec Ideal S2048x128 .bf16)
variable (e : ℕ) (he : e < 2) (Kc Vc : Fin 256 → Fin 64 → EReal) (Kl Vl : Fin 2048 → Fin 64 → EReal)

/-- One lane of one dense head. -/
theorem dense_head (r : Fin 512) (hq : ∀ k, Num (q (ix2 r k))) (hKc : ∀ j d, Num (Kc j d)) (hKl : ∀ j d, Num (Kl j d))
    (hkc : ∀ j k, kc (ix2 j k) = halfPad e (Kc j) 0 k) (hkl : ∀ j k, kl (ix2 j k) = halfPad e (Kl j) 0 k)
    (hvc : ∀ j k, vc (ix2 j k) = halfPad e (Vc j) 1 k) (hvl : ∀ j k, vl (ix2 j k) = halfPad e (Vl j) 1 k)
    (l o : Fin 128) (hl : l.val / 64 = e) (ho : ¬ o.val / 64 = e) (ho' : o.val % 64 = 0) :
    Ideal.div (denseAcc q kc vc kl vl (ix2 r l)) (denseAcc q kc vc kl vl (ix2 r o))
      = mix (fun j => (2 : ℝ) ^ score (half e he fun k => q (ix2 r k)) (Kc j)) (fun j => (2 : ℝ) ^ score (half e he fun k => q (ix2 r k)) (Kl j)) 0
          (fun j => Vc j ⟨l.val % 64, Nat.mod_lt _ (by norm_num)⟩) (fun j => Vl j ⟨l.val % 64, Nat.mod_lt _ (by norm_num)⟩) := by
  have hc : ∀ j, denseCtx q kc (ix2 r j) = (score (half e he fun k => q (ix2 r k)) (Kc j) : EReal) := fun j => by
    rw [denseCtx_apply]
    simp only [hkc]
    exact dot_pad_score e he (fun k => q (ix2 r k)) (Kc j) hq (hKc j)
  have hL : ∀ j, denseLat q kl (ix2 r j) = (score (half e he fun k => q (ix2 r k)) (Kl j) : EReal) := fun j => by
    rw [denseLat_apply]
    simp only [hkl]
    exact dot_pad_score e he (fun k => q (ix2 r k)) (Kl j) hq (hKl j)
  have hM : Num (denseMax q kc kl (ix2 r 0)) := by
    rw [denseMax_apply]
    simp only [hc, hL]
    refine num_of_lt (lt_max_of_lt_left (lt_of_lt_of_le (EReal.bot_lt_coe _) (le_fold_max Finset.univ (fun x => (score (half e he fun k => q (ix2 r k)) (Kc x) : EReal)) (0 : Fin 256) (Finset.mem_univ _)))) (max_lt ?_ ?_)
    · exact fold_max_lt_top _ _ fun a => EReal.coe_lt_top _
    · exact fold_max_lt_top _ _ fun a => EReal.coe_lt_top _
  have hone : ∀ f : Fin 64 → EReal, halfPad e f 1 o = 1 := fun f => by unfold halfPad; rw [if_neg ho, if_pos ho']
  rw [denseAcc_apply, denseAcc_apply]
  simp only [hc, hL, hvc, hvl, hone, halfPad_own e _ _ l hl]
  have := head_mix (fun j => (score (half e he fun k => q (ix2 r k)) (Kc j) : EReal)) (fun j => (score (half e he fun k => q (ix2 r k)) (Kl j) : EReal))
    (fun _ => EReal.coe_lt_top _) (fun _ => EReal.coe_lt_top _) _ hM 0 le_rfl (0 : Fin 2048) (EReal.bot_lt_coe _)
    (fun j => Vc j ⟨l.val % 64, Nat.mod_lt _ (by norm_num)⟩) (fun j => Vl j ⟨l.val % 64, Nat.mod_lt _ (by norm_num)⟩)
  rw [zero_mul, EReal.coe_zero, add_zero] at this
  rw [this]
  simp only [weight_coe]

/-- A pair of dense heads at one element. -/
theorem denseTile_apply (kcl vcl kch vch : FVec Ideal S256x128 .bf16) (kll vll klh vlh : FVec Ideal S2048x128 .bf16)
    (r : Fin 512) (l : Fin 128) (hq : ∀ k, Num (q (ix2 r k))) (hKc : ∀ j d, Num (Kc j d)) (hKl : ∀ j d, Num (Kl j d))
    (hkcl : ∀ j k, kcl (ix2 j k) = halfPad 0 (Kc j) 0 k) (hkll : ∀ j k, kll (ix2 j k) = halfPad 0 (Kl j) 0 k)
    (hvcl : ∀ j k, vcl (ix2 j k) = halfPad 0 (Vc j) 1 k) (hvll : ∀ j k, vll (ix2 j k) = halfPad 0 (Vl j) 1 k)
    (hkch : ∀ j k, kch (ix2 j k) = halfPad 1 (Kc j) 0 k) (hklh : ∀ j k, klh (ix2 j k) = halfPad 1 (Kl j) 0 k)
    (hvch : ∀ j k, vch (ix2 j k) = halfPad 1 (Vc j) 1 k) (hvlh : ∀ j k, vlh (ix2 j k) = halfPad 1 (Vl j) 1 k) :
    denseTile q kcl vcl kch vch kll vll klh vlh (ix2 r l)
      = mix (fun j => (2 : ℝ) ^ score (half (l.val / 64) (lane_half l) fun k => q (ix2 r k)) (Kc j))
          (fun j => (2 : ℝ) ^ score (half (l.val / 64) (lane_half l) fun k => q (ix2 r k)) (Kl j)) 0
          (fun j => Vc j ⟨l.val % 64, Nat.mod_lt _ (by norm_num)⟩) (fun j => Vl j ⟨l.val % 64, Nat.mod_lt _ (by norm_num)⟩) := by
  show denseLow q kcl vcl kll vll (ix2 r l) + denseHigh q kch vch klh vlh (ix2 r l) = _
  rw [denseLow_apply, denseHigh_apply]
  by_cases h : l.val < 64
  · have he : l.val / 64 = 0 := by omega
    rw [if_pos h, if_pos h, add_zero, dense_head q kcl vcl kll vll 0 (by norm_num) Kc Vc Kl Vl r hq hKc hKl hkcl hkll hvcl hvll l 64 he (by decide) (by decide)]
    rw [half_congr he (lane_half l) (by norm_num)]
  · have he : l.val / 64 = 1 := by omega
    rw [if_neg h, if_neg h, zero_add, dense_head q kch vch klh vlh 1 (by norm_num) Kc Vc Kl Vl r hq hKc hKl hkch hklh hvch hvlh l 0 he (by decide) (by decide)]
    rw [half_congr he (lane_half l) (by norm_num)]

end Dense

section Band

variable (q : FVec Ideal S256x128 .bf16) (kw vw : FVec Ideal S512x128 .bf16) (kc vc : FVec Ideal S256x128 .bf16)
  (mask : IVec S256x512 1) (sink : Ideal .f32)
variable (e : ℕ) (he : e < 2) (Kw Vw : Fin 512 → Fin 64 → EReal) (Kc Vc : Fin 256 → Fin 64 → EReal)

/-- The sink's weight, kept in powers of two. -/
def sinkWeight (s : EReal) : ℝ := (2 : ℝ) ^ (s.toReal * (Real.log 2)⁻¹)

/-- One lane of one banded head. -/
theorem band_head (r : Fin 256) (valid : Fin 512 → Prop) [DecidablePred valid] (hmask : ∀ j, mask (ix2 r j) = if valid j then 1#1 else 0#1)
    (hs : Num sink) (hq : ∀ k, Num (q (ix2 r k))) (hKw : ∀ j d, Num (Kw j d)) (hKc : ∀ j d, Num (Kc j d))
    (hkw : ∀ j k, kw (ix2 j k) = halfPad e (Kw j) 0 k) (hkc : ∀ j k, kc (ix2 j k) = halfPad e (Kc j) 0 k)
    (hvw : ∀ j k, vw (ix2 j k) = halfPad e (Vw j) 1 k) (hvc : ∀ j k, vc (ix2 j k) = halfPad e (Vc j) 1 k)
    (l o : Fin 128) (hl : l.val / 64 = e) (ho : ¬ o.val / 64 = e) (ho' : o.val % 64 = 0) :
    Ideal.div (bandAcc q kw vw kc vc mask sink (ix2 r l)) (bandAcc q kw vw kc vc mask sink (ix2 r o) + bandExtra q kw kc mask sink (ix2 r 0))
      = mix (fun j => if valid j then (2 : ℝ) ^ score (half e he fun k => q (ix2 r k)) (Kw j) else 0)
          (fun j => (2 : ℝ) ^ score (half e he fun k => q (ix2 r k)) (Kc j)) (sinkWeight sink)
          (fun j => Vw j ⟨l.val % 64, Nat.mod_lt _ (by norm_num)⟩) (fun j => Vc j ⟨l.val % 64, Nat.mod_lt _ (by norm_num)⟩) := by
  have hc : ∀ j, bandCtx q kc (ix2 r j) = (score (half e he fun k => q (ix2 r k)) (Kc j) : EReal) := fun j => by
    rw [bandCtx_apply]
    simp only [hkc]
    exact dot_pad_score e he (fun k => q (ix2 r k)) (Kc j) hq (hKc j)
  have hW : ∀ j, bandWin q kw mask (ix2 r j) = if valid j then (score (half e he fun k => q (ix2 r k)) (Kw j) : EReal) else ⊥ := fun j => by
    rw [bandWin_apply, hmask, select_if]
    simp only [hkw]
    rw [dot_pad_score e he (fun k => q (ix2 r k)) (Kw j) hq (hKw j)]
  have hWt : ∀ j, (if valid j then (score (half e he fun k => q (ix2 r k)) (Kw j) : EReal) else ⊥) < ⊤ := fun j => by
    split
    · exact EReal.coe_lt_top _
    · exact bot_lt_top
  have hS : bandSink sink = ((sink.toReal * (Real.log 2)⁻¹ : ℝ) : EReal) := by
    rw [bandSink_eq, EReal.coe_mul, ← hs]
  have hM : Num (bandMax q kw kc mask sink (ix2 r 0)) := by
    rw [bandMax_apply]
    simp only [hc, hW, hS]
    refine num_of_lt (lt_max_of_lt_right (EReal.bot_lt_coe _)) (max_lt (max_lt ?_ ?_) (EReal.coe_lt_top _))
    · exact fold_max_lt_top _ _ hWt
    · exact fold_max_lt_top _ _ fun a => EReal.coe_lt_top _
  have hone : ∀ f : Fin 64 → EReal, halfPad e f 1 o = 1 := fun f => by unfold halfPad; rw [if_neg ho, if_pos ho']
  rw [bandAcc_apply, bandAcc_apply, bandExtra_apply, hS, exp2_weight _ (EReal.coe_lt_top _) _ hM, weight_coe]
  simp only [hc, hW, hvc, hvw, hone, halfPad_own e _ _ l hl]
  rw [head_mix (fun j => if valid j then (score (half e he fun k => q (ix2 r k)) (Kw j) : EReal) else ⊥) (fun j => (score (half e he fun k => q (ix2 r k)) (Kc j) : EReal))
    hWt (fun _ => EReal.coe_lt_top _) _ hM _ (by positivity) (0 : Fin 256) (EReal.bot_lt_coe _)
    (fun j => Vw j ⟨l.val % 64, Nat.mod_lt _ (by norm_num)⟩) (fun j => Vc j ⟨l.val % 64, Nat.mod_lt _ (by norm_num)⟩)]
  have hw : ∀ j, weight (if valid j then (score (half e he fun k => q (ix2 r k)) (Kw j) : EReal) else ⊥)
      = if valid j then (2 : ℝ) ^ score (half e he fun k => q (ix2 r k)) (Kw j) else 0 := fun j => by
    split
    · exact weight_coe _
    · exact weight_bot
  simp only [weight_coe, hw]
  rfl

/-- A pair of banded heads at one element. -/
theorem bandTile_apply (kwl vwl kwh vwh : FVec Ideal S512x128 .bf16) (kcl vcl kch vch : FVec Ideal S256x128 .bf16) (s0 s1 : Ideal .f32)
    (r : Fin 256) (l : Fin 128) (valid : Fin 512 → Prop) [DecidablePred valid] (hmask : ∀ j, mask (ix2 r j) = if valid j then 1#1 else 0#1)
    (hs0 : Num s0) (hs1 : Num s1) (hq : ∀ k, Num (q (ix2 r k))) (hKw : ∀ j d, Num (Kw j d)) (hKc : ∀ j d, Num (Kc j d))
    (hkwl : ∀ j k, kwl (ix2 j k) = halfPad 0 (Kw j) 0 k) (hkcl : ∀ j k, kcl (ix2 j k) = halfPad 0 (Kc j) 0 k)
    (hvwl : ∀ j k, vwl (ix2 j k) = halfPad 0 (Vw j) 1 k) (hvcl : ∀ j k, vcl (ix2 j k) = halfPad 0 (Vc j) 1 k)
    (hkwh : ∀ j k, kwh (ix2 j k) = halfPad 1 (Kw j) 0 k) (hkch : ∀ j k, kch (ix2 j k) = halfPad 1 (Kc j) 0 k)
    (hvwh : ∀ j k, vwh (ix2 j k) = halfPad 1 (Vw j) 1 k) (hvch : ∀ j k, vch (ix2 j k) = halfPad 1 (Vc j) 1 k) :
    bandTile q kwl vwl kwh vwh kcl vcl kch vch mask s0 s1 (ix2 r l)
      = mix (fun j => if valid j then (2 : ℝ) ^ score (half (l.val / 64) (lane_half l) fun k => q (ix2 r k)) (Kw j) else 0)
          (fun j => (2 : ℝ) ^ score (half (l.val / 64) (lane_half l) fun k => q (ix2 r k)) (Kc j))
          (sinkWeight (if l.val < 64 then s0 else s1))
          (fun j => Vw j ⟨l.val % 64, Nat.mod_lt _ (by norm_num)⟩) (fun j => Vc j ⟨l.val % 64, Nat.mod_lt _ (by norm_num)⟩) := by
  show bandLow q kwl vwl kcl vcl mask s0 (ix2 r l) + bandHigh q kwh vwh kch vch mask s1 (ix2 r l) = _
  rw [bandLow_apply, bandHigh_apply]
  by_cases h : l.val < 64
  · have he : l.val / 64 = 0 := by omega
    rw [if_pos h, if_pos h, add_zero, if_pos h,
      band_head q kwl vwl kcl vcl mask s0 0 (by norm_num) Kw Vw Kc Vc r valid hmask hs0 hq hKw hKc hkwl hkcl hvwl hvcl l 64 he (by decide) (by decide)]
    rw [half_congr he (lane_half l) (by norm_num)]
  · have he : l.val / 64 = 1 := by omega
    rw [if_neg h, if_neg h, zero_add, if_neg h,
      band_head q kwh vwh kch vch mask s1 1 (by norm_num) Kw Vw Kc Vc r valid hmask hs1 hq hKw hKc hkwh hkch hvwh hvch l 0 he (by decide) (by decide)]
    rw [half_congr he (lane_half l) (by norm_num)]

end Band

end Cert.AttnIdeal.Head

end
-- ==== Proof.AttnBlocks.lean ====
/-
  What the attention kernel makes of a block of keys or values before its products: one of the two heads in the block's
  128 lanes, moved to the half of the lanes a query head occupies; and the band mask. Each read at one element.
-/
module

public import proofs.«01_k».proof.Proof.AttnTile

@[expose] public section

set_option maxRecDepth 16384

noncomputable section

namespace Cert.AttnIdeal.Head

open Cert.AttnIdeal Cert.AttnIdeal.Gen Cert.Attend Idealize.ShloMosaic Idealize.ShloMosaic.TcCoe Idealize.SL.Sem
open scoped BigOperators

/-! ## Moving a head -/

/-- Half `n` of 128 lanes, `n` a bit. -/
abbrev headOf (n : Bool) (x : Fin 128 → EReal) : Fin 64 → EReal := half n.toNat (Bool.toNat_lt n) x

section Move

variable (x : Fin 128 → EReal) (one : EReal) (k : Fin 128)

theorem keep_low : (if k.val < 64 then x k else if k.val = 64 then one else 0) = halfPad 0 (headOf false x) one k := by
  unfold halfPad
  by_cases h : k.val < 64
  · rw [if_pos h, if_pos (show k.val / 64 = 0 by omega)]
    exact congrArg x (Fin.ext (by show k.val = 64 * 0 + k.val % 64; omega))
  · rw [if_neg h, if_neg (show ¬ k.val / 64 = 0 by omega)]
    refine if_congr ?_ rfl rfl
    omega

theorem keep_high : (if k.val < 64 then (if k.val = 0 then one else 0) else x k) = halfPad 1 (headOf true x) one k := by
  unfold halfPad
  by_cases h : k.val < 64
  · rw [if_pos h, if_neg (show ¬ k.val / 64 = 1 by omega)]
    refine if_congr ?_ rfl rfl
    omega
  · rw [if_neg h, if_pos (show k.val / 64 = 1 by omega)]
    exact congrArg x (Fin.ext (by show k.val = 64 * 1 + k.val % 64; omega))

theorem move_low (h' : (k.val + 128 - 64) % 128 < 128) :
    (if k.val < 64 then x ⟨(k.val + 128 - 64) % 128, h'⟩ else if k.val = 64 then one else 0) = halfPad 0 (headOf true x) one k := by
  unfold halfPad
  by_cases h : k.val < 64
  · rw [if_pos h, if_pos (show k.val / 64 = 0 by omega)]
    exact congrArg x (Fin.ext (by show (k.val + 128 - 64) % 128 = 64 * 1 + k.val % 64; omega))
  · rw [if_neg h, if_neg (show ¬ k.val / 64 = 0 by omega)]
    refine if_congr ?_ rfl rfl
    omega

theorem move_high (h' : (k.val + 128 - 64) % 128 < 128) :
    (if k.val < 64 then (if k.val = 0 then one else 0) else x ⟨(k.val + 128 - 64) % 128, h'⟩) = halfPad 1 (headOf false x) one k := by
  unfold halfPad
  by_cases h : k.val < 64
  · rw [if_pos h, if_neg (show ¬ k.val / 64 = 1 by omega)]
    refine if_congr ?_ rfl rfl
    omega
  · rw [if_neg h, if_pos (show k.val / 64 = 1 by omega)]
    exact congrArg x (Fin.ext (by show (k.val + 128 - 64) % 128 = 64 * 0 + k.val % 64; omega))

theorem keep_low0 : (if k.val < 64 then x k else 0) = halfPad 0 (headOf false x) 0 k := by rw [← keep_low, ite_self]
theorem keep_high0 : (if k.val < 64 then 0 else x k) = halfPad 1 (headOf true x) 0 k := by rw [← keep_high, ite_self]
theorem move_low0 (h' : (k.val + 128 - 64) % 128 < 128) :
    (if k.val < 64 then x ⟨(k.val + 128 - 64) % 128, h'⟩ else 0) = halfPad 0 (headOf true x) 0 k := by rw [← move_low x 0 k h', ite_self]
theorem move_high0 (h' : (k.val + 128 - 64) % 128 < 128) :
    (if k.val < 64 then 0 else x ⟨(k.val + 128 - 64) % 128, h'⟩) = halfPad 1 (headOf false x) 0 k := by rw [← move_high x 0 k h', ite_self]

end Move

/-! ## The blocks -/

/-- Cached keys: head `n` moved to half `e`. -/
def cacheKey (n e : Bool) (x : Vec Ideal S1x256x128 .f32) : FVec Ideal S256x128 .bf16 :=
  match n, e with
  | false, false => k0_pay6 x | false, true => k0_pay7 x | true, false => k0_pay8 x | true, true => k0_pay9 x
/-- Cached values: head `n` moved to half `e`, a lane of ones in the other half. -/
def cacheVal (n e : Bool) (x : Vec Ideal S1x256x128 .f32) : FVec Ideal S256x128 .bf16 :=
  match n, e with
  | false, false => k0_pay15 x | false, true => k0_pay16 x | true, false => k0_pay17 x | true, true => k0_pay18 x
/-- The sequence's keys: head `n` moved to half `e`. -/
def seqKey (n e : Bool) (x : Vec Ideal S2048x128 .bf16) : FVec Ideal S2048x128 .bf16 :=
  match n, e with
  | false, false => k0_pay24 x | false, true => k0_pay25 x | true, false => k0_pay26 x | true, true => k0_pay27 x
/-- The sequence's values: head `n` moved to half `e`, a lane of ones in the other half. -/
def seqVal (n e : Bool) (x : Vec Ideal S2048x128 .bf16) : FVec Ideal S2048x128 .bf16 :=
  match n, e with
  | false, false => k0_pay33 x | false, true => k0_pay34 x | true, false => k0_pay35 x | true, true => k0_pay36 x
/-- A window's keys: head `n` moved to half `e`. -/
def winKey (n e : Bool) (x : Vec Ideal S512x128 .bf16) : FVec Ideal S512x128 .bf16 :=
  match n, e with
  | false, false => k0_pay91 x | false, true => k0_pay92 x | true, false => k0_pay93 x | true, true => k0_pay95 (k0_pay94 x)
/-- A window's values: head `n` moved to half `e`, a lane of ones in the other half. -/
def winVal (n e : Bool) (x : Vec Ideal S512x128 .bf16) : FVec Ideal S512x128 .bf16 :=
  match n, e with
  | false, false => k0_pay101 x | false, true => k0_pay102 x | true, false => k0_pay103 x | true, true => k0_pay104 x

theorem cacheKey_apply (n e : Bool) (x : Vec Ideal S1x256x128 .f32) (j : Fin 256) (k : Fin 128) :
    cacheKey n e x (ix2 j k) = halfPad e.toNat (headOf n fun k => x (ix3 0 j k)) 0 k := by
  cases n <;> cases e <;> unfold cacheKey <;> open_payloads <;> pointwise <;> rw [half_bit, select_if]
  · exact keep_low0 (fun k => x (ix3 0 j k)) k
  · exact move_high0 (fun k => x (ix3 0 j k)) k _
  · exact move_low0 (fun k => x (ix3 0 j k)) k _
  · exact keep_high0 (fun k => x (ix3 0 j k)) k

theorem cacheVal_apply (n e : Bool) (x : Vec Ideal S1x256x128 .f32) (j : Fin 256) (k : Fin 128) :
    cacheVal n e x (ix2 j k) = halfPad e.toNat (headOf n fun k => x (ix3 0 j k)) 1 k := by
  cases n <;> cases e <;> unfold cacheVal <;> open_payloads <;> pointwise <;> rw [half_bit, select_if] <;>
    simp only [at64_bit, at0_bit, select_if]
  · exact keep_low (fun k => x (ix3 0 j k)) 1 k
  · exact move_high (fun k => x (ix3 0 j k)) 1 k _
  · exact move_low (fun k => x (ix3 0 j k)) 1 k _
  · exact keep_high (fun k => x (ix3 0 j k)) 1 k

theorem seqKey_apply (n e : Bool) (x : Vec Ideal S2048x128 .bf16) (j : Fin 2048) (k : Fin 128) :
    seqKey n e x (ix2 j k) = halfPad e.toNat (headOf n fun k => x (ix2 j k)) 0 k := by
  cases n <;> cases e <;> unfold seqKey <;> open_payloads <;> pointwise <;> rw [half_bit, select_if]
  · exact keep_low0 (fun k => x (ix2 j k)) k
  · exact move_high0 (fun k => x (ix2 j k)) k _
  · exact move_low0 (fun k => x (ix2 j k)) k _
  · exact keep_high0 (fun k => x (ix2 j k)) k

theorem seqVal_apply (n e : Bool) (x : Vec Ideal S2048x128 .bf16) (j : Fin 2048) (k : Fin 128) :
    seqVal n e x (ix2 j k) = halfPad e.toNat (headOf n fun k => x (ix2 j k)) 1 k := by
  cases n <;> cases e <;> unfold seqVal <;> open_payloads <;> pointwise <;> rw [half_bit, select_if] <;>
    simp only [at64_bit, at0_bit, select_if]
  · exact keep_low (fun k => x (ix2 j k)) 1 k
  · exact move_high (fun k => x (ix2 j k)) 1 k _
  · exact move_low (fun k => x (ix2 j k)) 1 k _
  · exact keep_high (fun k => x (ix2 j k)) 1 k

theorem winKey_apply (n e : Bool) (x : Vec Ideal S512x128 .bf16) (j : Fin 512) (k : Fin 128) :
    winKey n e x (ix2 j k) = halfPad e.toNat (headOf n fun k => x (ix2 j k)) 0 k := by
  cases n <;> cases e <;> unfold winKey <;> open_payloads <;> pointwise <;> rw [half_bit, select_if]
  · exact keep_low0 (fun k => x (ix2 j k)) k
  · exact move_high0 (fun k => x (ix2 j k)) k _
  · exact move_low0 (fun k => x (ix2 j k)) k _
  · exact keep_high0 (fun k => x (ix2 j k)) k

theorem winVal_apply (n e : Bool) (x : Vec Ideal S512x128 .bf16) (j : Fin 512) (k : Fin 128) :
    winVal n e x (ix2 j k) = halfPad e.toNat (headOf n fun k => x (ix2 j k)) 1 k := by
  cases n <;> cases e <;> unfold winVal <;> open_payloads <;> pointwise <;> rw [half_bit, select_if] <;>
    simp only [at64_bit, at0_bit, select_if]
  · exact keep_low (fun k => x (ix2 j k)) 1 k
  · exact move_high (fun k => x (ix2 j k)) 1 k _
  · exact move_low (fun k => x (ix2 j k)) 1 k _
  · exact keep_high (fun k => x (ix2 j k)) 1 k

/-! ## The band -/

/-- The first row of keys the window of 256 query rows starting at row `b` holds. -/
def winStart (b : ℕ) : ℕ := min 1536 (b - 128)

/-- The first query row of half `s` of block `i`. -/
def subRow (i : Fin 4) (s : Fin 2) : ℕ := 512 * i.val + 256 * s.val

theorem winStart_word : ∀ (i : Fin 4) (s : Fin 2),
    Scalar.minsi 1536#32 (Scalar.maxsi 0#32 (Scalar.subi (BitVec.ofNat 32 (subRow i s)) 128#32))
      = BitVec.ofNat 32 (winStart (subRow i s)) := by decide +kernel
theorem subRow_word : ∀ (i : Fin 4) (s : Fin 2),
    Scalar.addi (Scalar.muli (BitVec.ofNat 32 i.val) 512#32) (BitVec.ofNat 32 (256 * s.val)) = BitVec.ofNat 32 (subRow i s) := by decide +kernel

/-- The compared word of a difference of at most 2048 either way. -/
theorem near_word : ∀ d : Fin 4096, IntOp.cmpi CmpIPredicate.sle (IntOp.absi (BitVec.ofNat 32 d.val - BitVec.ofNat 32 2048)) 128#32
    = if d.val ≤ 2048 + 128 ∧ 2048 ≤ d.val + 128 then 1#1 else 0#1 := by decide +kernel

theorem word_diff (a b : ℕ) (ha : a < 2048) (hb : b < 2048) :
    BitVec.ofNat 32 a - BitVec.ofNat 32 b = BitVec.ofNat 32 (a + (2048 - b)) - BitVec.ofNat 32 2048 := by
  apply BitVec.eq_of_toNat_eq
  simp only [BitVec.toNat_sub, BitVec.toNat_ofNat]
  omega

/-- The band of a block of 256 rows beginning at `row`: its rows against the 512 of its window. -/
def nearMask (row : BitVec 32) : IVec S256x512 1 :=
  cmpi .sle (absi (subi (addi (broadcast S256x512 row) (iota .tc S256x512 32 [0] iota_S256x512_d0_w32))
    (addi (broadcast S256x512 (Scalar.minsi 1536#32 (Scalar.maxsi 0#32 (Scalar.subi row 128#32)))) (iota .tc S256x512 32 [1] iota_S256x512_d1_w32))))
    (broadcast S256x512 128#32)

theorem mask_apply (i : Fin 4) (s : Fin 2) (r : Fin 256) (j : Fin 512) :
    nearMask (Scalar.addi (Scalar.muli (BitVec.ofNat 32 i.val) 512#32) (BitVec.ofNat 32 (256 * s.val))) (ix2 r j)
      = if subRow i s + r.val ≤ winStart (subRow i s) + j.val + 128 ∧ winStart (subRow i s) + j.val ≤ subRow i s + r.val + 128 then 1#1 else 0#1 := by
  unfold nearMask
  simp only [subRow_word, winStart_word]
  pointwise
  have hb : subRow i s ≤ 1792 := by unfold subRow; omega
  have hw : winStart (subRow i s) ≤ 1536 := by unfold winStart; omega
  show IntOp.cmpi CmpIPredicate.sle (IntOp.absi ((BitVec.ofNat 32 (subRow i s) + BitVec.ofNat 32 r.val) - (BitVec.ofNat 32 (winStart (subRow i s)) + BitVec.ofNat 32 j.val))) 128#32 = _
  rw [← BitVec.ofNat_add, ← BitVec.ofNat_add, word_diff _ _ (by omega) (by omega),
    near_word ⟨subRow i s + r.val + (2048 - (winStart (subRow i s) + j.val)), by omega⟩]
  refine if_congr ?_ rfl rfl
  dsimp only
  omega

end Cert.AttnIdeal.Head

end
-- ==== Proof.AttnSpec.lean ====
/-
  One element of an attention head over the extended reals, as a weighted mean: over all keys, or over a band of keys, the cached keys and a sink.
-/
module

public import proofs.«01_k».proof.Proof.AttnMath

@[expose] public section

noncomputable section

namespace Cert.Attend

open Idealize.ShloMosaic
open scoped BigOperators

/-- The rows of keys that row `p` of the sequence attends to. -/
def Near (p j : ℕ) : Prop := p ≤ j + 128 ∧ j ≤ p + 128
instance (p j : ℕ) : Decidable (Near p j) := inferInstanceAs (Decidable (_ ∧ _))

/-- The logit of a query and a key of 64 lanes. -/
def logit (q k : Fin 64 → EReal) : ℝ := score (fun d => q d * ((1 / 8 : ℝ) : EReal)) k

/-- Attention of one query over the cached and the sequence's keys. -/
def dense (q : Fin 64 → EReal) (kc : Fin 256 → Fin 64 → EReal) (ks : Fin 2048 → Fin 64 → EReal) (vc : Fin 256 → EReal) (vs : Fin 2048 → EReal) : EReal :=
  mix (fun j => Real.exp (logit q (kc j))) (fun j => Real.exp (logit q (ks j))) 0 vc vs

/-- Attention of the query of row `p` over the keys near it, the cached keys and a sink. -/
def band (p : ℕ) (sink : EReal) (q : Fin 64 → EReal) (ks : Fin 2048 → Fin 64 → EReal) (kc : Fin 256 → Fin 64 → EReal) (vs : Fin 2048 → EReal) (vc : Fin 256 → EReal) : EReal :=
  mix (fun j => if Near p j.val then Real.exp (logit q (ks j)) else 0) (fun j => Real.exp (logit q (kc j))) (Real.exp sink.toReal) vs vc

/-- What the queries are scaled by where powers of two are taken: an eighth over the logarithm of two. -/
def qscale : EReal := (((1 / 8) * (Real.log 2)⁻¹ : ℝ) : EReal)

theorem two_rpow_score (q k : Fin 64 → EReal) : (2 : ℝ) ^ score (fun d => q d * qscale) k = Real.exp (logit q k) := by
  rw [← two_rpow_div]
  congr 1
  unfold logit score qscale
  rw [Finset.sum_mul]
  refine Finset.sum_congr rfl fun d _ => ?_
  rw [EReal.toReal_mul, EReal.toReal_mul, EReal.toReal_coe, EReal.toReal_coe]
  ring

theorem num_scaled {x : EReal} (hx : Num x) : Num (x * qscale) := by
  unfold qscale
  rw [hx, ← EReal.coe_mul]
  exact num_coe _

/-- The heads' elements side by side: eight dense heads, eight banded ones; 64 lanes each. -/
def attention (sink : Fin 8 → EReal) (qa : Fin 4 → Fin 2048 → Fin 8 → Fin 64 → EReal) (ka va : Fin 4 → Fin 2048 → Fin 2 → Fin 64 → EReal)
    (qb : Fin 4 → Fin 2048 → Fin 8 → Fin 64 → EReal) (kb vb : Fin 4 → Fin 2048 → Fin 2 → Fin 64 → EReal)
    (cka cva ckb cvb : Fin 4 → Fin 256 → Fin 2 → Fin 64 → EReal) (b : Fin 4) (p : Fin 2048) (c : Fin 1024) : EReal :=
  if h : c.val < 512 then
    dense (qa b p ⟨c.val / 64, by omega⟩) (fun j => cka b j ⟨c.val / 64 / 4, by omega⟩) (fun j => ka b j ⟨c.val / 64 / 4, by omega⟩)
      (fun j => cva b j ⟨c.val / 64 / 4, by omega⟩ ⟨c.val % 64, Nat.mod_lt _ (by norm_num)⟩) (fun j => va b j ⟨c.val / 64 / 4, by omega⟩ ⟨c.val % 64, Nat.mod_lt _ (by norm_num)⟩)
  else
    band p.val (sink ⟨c.val / 64 - 8, by omega⟩) (qb b p ⟨c.val / 64 - 8, by omega⟩) (fun j => kb b j ⟨(c.val / 64 - 8) / 4, by omega⟩) (fun j => ckb b j ⟨(c.val / 64 - 8) / 4, by omega⟩)
      (fun j => vb b j ⟨(c.val / 64 - 8) / 4, by omega⟩ ⟨c.val % 64, Nat.mod_lt _ (by norm_num)⟩) (fun j => cvb b j ⟨(c.val / 64 - 8) / 4, by omega⟩ ⟨c.val % 64, Nat.mod_lt _ (by norm_num)⟩)

end Cert.Attend

end
-- ==== Proof.AttnPoint.lean ====
/-
  What one grid point of the attention kernel stores, at every element: a softmax-weighted mean of the values its blocks
  hold, over all keys for the first eight heads and over a band of keys, the cache and a sink for the other eight.
-/
module

public import proofs.«01_k».proof.Proof.AttnBlocks
public import proofs.«01_k».proof.Proof.AttnSpec

@[expose] public section

set_option maxRecDepth 16384

noncomputable section

namespace Cert.AttnIdeal.Point

open Cert.AttnIdeal Cert.AttnIdeal.Gen Cert.AttnIdeal.Head Cert.Attend Idealize.ShloMosaic Idealize.ShloMosaic.TcCoe Idealize.SL.Sem
open scoped BigOperators

section

variable (i : Fin 4) (x0 : Vec Ideal S8 .f32) (x1 : Vec Ideal S512x1024 .bf16) (x2 x3 x4 x5 : Vec Ideal S2048x128 .bf16)
  (x6 x7 x8 x9 : Vec Ideal S1x256x128 .f32)

/-- The scaled query of row `r` and head `h`. -/
def query (r : Fin 512) (h : Fin 16) (d : Fin 64) : EReal := x1 (ix2 r ⟨64 * h.val + d.val, by omega⟩) * qscale
/-- A row of the sequence's keys or values, of shared head `n`. -/
def seqHead (x : Vec Ideal S2048x128 .bf16) (n : Fin 2) (j : Fin 2048) (d : Fin 64) : EReal := x (ix2 j ⟨64 * n.val + d.val, by omega⟩)
/-- A row of the cached keys or values, of shared head `n`. -/
def cacheHead (x : Vec Ideal S1x256x128 .f32) (n : Fin 2) (j : Fin 256) (d : Fin 64) : EReal := x (ix3 0 j ⟨64 * n.val + d.val, by omega⟩)

/-- An element of head `h`, attending to everything. -/
def denseVal (r : Fin 512) (h : Fin 8) (d : Fin 64) : EReal :=
  mix (fun j => (2 : ℝ) ^ score (query x1 r ⟨h.val, by omega⟩) (cacheHead x6 ⟨h.val / 4, by omega⟩ j))
    (fun j => (2 : ℝ) ^ score (query x1 r ⟨h.val, by omega⟩) (seqHead x2 ⟨h.val / 4, by omega⟩ j)) 0
    (fun j => cacheHead x7 ⟨h.val / 4, by omega⟩ j d) (fun j => seqHead x3 ⟨h.val / 4, by omega⟩ j d)

/-- An element of head `8 + h`, attending to a band. -/
def bandVal (r : Fin 512) (h : Fin 8) (d : Fin 64) : EReal :=
  mix (fun j : Fin 2048 => if Near (512 * i.val + r.val) j.val then (2 : ℝ) ^ score (query x1 r ⟨8 + h.val, by omega⟩) (seqHead x4 ⟨h.val / 4, by omega⟩ j) else 0)
    (fun j => (2 : ℝ) ^ score (query x1 r ⟨8 + h.val, by omega⟩) (cacheHead x8 ⟨h.val / 4, by omega⟩ j)) (sinkWeight (x0 (ix1 h)))
    (fun j => seqHead x5 ⟨h.val / 4, by omega⟩ j d) (fun j => cacheHead x9 ⟨h.val / 4, by omega⟩ j d)

/-- What the point stores. -/
def pointVal (y : S512x1024.Idx) : EReal :=
  if h : (y 1).val < 512 then denseVal x1 x2 x3 x6 x7 (y 0) ⟨(y 1).val / 64, by omega⟩ ⟨(y 1).val % 64, Nat.mod_lt _ (by norm_num)⟩
  else bandVal i x0 x1 x4 x5 x8 x9 (y 0) ⟨(y 1).val / 64 - 8, by have : (y 1).val < 1024 := (y 1).isLt; omega⟩ ⟨(y 1).val % 64, Nat.mod_lt _ (by norm_num)⟩

theorem densePiece (hx1 : ∀ k, Num (x1 k)) (hx2 : ∀ k, Num (x2 k)) (hx6 : ∀ k, Num (x6 k))
    (n : Bool) (t : Fin 4) (hn : n.toNat = t.val / 2) (q : FVec Ideal S512x128 .bf16)
    (hq : ∀ r k, q (ix2 r k) = x1 (ix2 r ⟨128 * t.val + k.val, by omega⟩) * qscale) (r : Fin 512) (l : Fin 128) (y : S512x1024.Idx)
    (hy0 : (y 0).val = r.val) (hy1 : (y 1).val = 128 * t.val + l.val) :
    denseTile q (cacheKey n false x6) (cacheVal n false x7) (cacheKey n true x6) (cacheVal n true x7)
        (seqKey n false x2) (seqVal n false x3) (seqKey n true x2) (seqVal n true x3) (ix2 r l)
      = pointVal i x0 x1 x2 x3 x4 x5 x6 x7 x8 x9 y := by
  rw [denseTile_apply q (fun j => headOf n fun k => x6 (ix3 0 j k)) (fun j => headOf n fun k => x7 (ix3 0 j k))
    (fun j => headOf n fun k => x2 (ix2 j k)) (fun j => headOf n fun k => x3 (ix2 j k)) _ _ _ _ _ _ _ _ r l
    (fun k => (congrArg Num (hq r k)).mpr (num_scaled (hx1 _))) (fun j d => hx6 _) (fun j d => hx2 _)
    (fun j k => cacheKey_apply n false x6 j k) (fun j k => seqKey_apply n false x2 j k) (fun j k => cacheVal_apply n false x7 j k) (fun j k => seqVal_apply n false x3 j k)
    (fun j k => cacheKey_apply n true x6 j k) (fun j k => seqKey_apply n true x2 j k) (fun j k => cacheVal_apply n true x7 j k) (fun j k => seqVal_apply n true x3 j k)]
  unfold pointVal
  rw [dif_pos (by rw [hy1]; omega)]
  unfold denseVal
  have hr : r = y 0 := Fin.ext hy0.symm
  have hqd : (half (l.val / 64) (lane_half l) fun k => q (ix2 r k)) = query x1 (y 0) ⟨(y 1).val / 64, by omega⟩ := funext fun d => by
    exact (hq r _).trans (congrArg₂ (fun a b => x1 (ix2 a b) * qscale) hr <| Fin.ext (by show 128 * t.val + (64 * (l.val / 64) + d.val) = 64 * ((y 1).val / 64) + d.val; rw [hy1]; omega))
  have hnn : n.toNat = (y 1).val / 64 / 4 := by rw [hn, hy1]; omega
  have hl : l.val % 64 = (y 1).val % 64 := by rw [hy1]; omega
  have hc : ∀ (x : Vec Ideal S1x256x128 .f32) j, (headOf n fun k => x (ix3 0 j k)) = cacheHead x ⟨(y 1).val / 64 / 4, by omega⟩ j := fun x j => funext fun d => by
    unfold headOf half cacheHead
    exact congrArg (fun z => x (ix3 0 j z)) (Fin.ext (by show 64 * n.toNat + d.val = 64 * ((y 1).val / 64 / 4) + d.val; rw [hnn]))
  have hs : ∀ (x : Vec Ideal S2048x128 .bf16) j, (headOf n fun k => x (ix2 j k)) = seqHead x ⟨(y 1).val / 64 / 4, by omega⟩ j := fun x j => funext fun d => by
    unfold headOf half seqHead
    exact congrArg (fun z => x (ix2 j z)) (Fin.ext (by show 64 * n.toNat + d.val = 64 * ((y 1).val / 64 / 4) + d.val; rw [hnn]))
  simp only [hqd, hc, hs, hl]

theorem winStart_le (i : Fin 4) (s : Fin 2) (j : Fin 512) : winStart (subRow i s) + j.val < 2048 := by unfold winStart; omega

theorem bandPiece (hx0 : ∀ k, Num (x0 k)) (hx1 : ∀ k, Num (x1 k)) (hx4 : ∀ k, Num (x4 k)) (hx8 : ∀ k, Num (x8 k))
    (n : Bool) (t : Fin 4) (hn : n.toNat = t.val / 2) (s : Fin 2) (q : FVec Ideal S256x128 .bf16)
    (hq : ∀ r k, q (ix2 r k) = x1 (ix2 ⟨256 * s.val + r.val, by omega⟩ ⟨512 + 128 * t.val + k.val, by omega⟩) * qscale)
    (w4 w5 : Vec Ideal S512x128 .bf16) (hw4 : ∀ j k, w4 (ix2 j k) = x4 (ix2 ⟨winStart (subRow i s) + j.val, winStart_le i s j⟩ k))
    (hw5 : ∀ j k, w5 (ix2 j k) = x5 (ix2 ⟨winStart (subRow i s) + j.val, winStart_le i s j⟩ k)) (mask : IVec S256x512 1)
    (hmask : mask = nearMask (Scalar.addi (Scalar.muli (BitVec.ofNat 32 i.val) 512#32) (BitVec.ofNat 32 (256 * s.val))))
    (s0 s1 : Ideal .f32) (hs0 : s0 = x0 (ix1 ⟨2 * t.val, by omega⟩)) (hs1 : s1 = x0 (ix1 ⟨2 * t.val + 1, by omega⟩))
    (r : Fin 256) (l : Fin 128) (y : S512x1024.Idx) (hy0 : (y 0).val = 256 * s.val + r.val) (hy1 : (y 1).val = 512 + 128 * t.val + l.val) :
    bandTile q (winKey n false w4) (winVal n false w5) (winKey n true w4) (winVal n true w5)
        (cacheKey n false x8) (cacheVal n false x9) (cacheKey n true x8) (cacheVal n true x9) mask s0 s1 (ix2 r l)
      = pointVal i x0 x1 x2 x3 x4 x5 x6 x7 x8 x9 y := by
  rw [bandTile_apply q mask (fun j => headOf n fun k => w4 (ix2 j k)) (fun j => headOf n fun k => w5 (ix2 j k))
    (fun j => headOf n fun k => x8 (ix3 0 j k)) (fun j => headOf n fun k => x9 (ix3 0 j k)) _ _ _ _ _ _ _ _ s0 s1 r l
    (fun j => Near (subRow i s + r.val) (winStart (subRow i s) + j.val)) (fun j => by rw [hmask, mask_apply]; rfl)
    (by rw [hs0]; exact hx0 _) (by rw [hs1]; exact hx0 _) (fun k => (congrArg Num (hq r k)).mpr (num_scaled (hx1 _))) (fun j d => (congrArg Num (hw4 j _)).mpr (hx4 _)) (fun j d => hx8 _)
    (fun j k => winKey_apply n false w4 j k) (fun j k => cacheKey_apply n false x8 j k) (fun j k => winVal_apply n false w5 j k) (fun j k => cacheVal_apply n false x9 j k)
    (fun j k => winKey_apply n true w4 j k) (fun j k => cacheKey_apply n true x8 j k) (fun j k => winVal_apply n true w5 j k) (fun j k => cacheVal_apply n true x9 j k)]
  unfold pointVal
  rw [dif_neg (by rw [hy1]; omega)]
  unfold bandVal
  have hy1' : (y 1).val < 1024 := (y 1).isLt
  have hr : (⟨256 * s.val + r.val, by omega⟩ : Fin 512) = y 0 := Fin.ext hy0.symm
  have hqd : (half (l.val / 64) (lane_half l) fun k => q (ix2 r k)) = query x1 (y 0) ⟨8 + ((y 1).val / 64 - 8), by omega⟩ := funext fun d => by
    exact (hq r _).trans (congrArg₂ (fun a b => x1 (ix2 a b) * qscale) hr <| Fin.ext (by show 512 + 128 * t.val + (64 * (l.val / 64) + d.val) = 64 * (8 + ((y 1).val / 64 - 8)) + d.val; rw [hy1]; omega))
  have hnn : n.toNat = ((y 1).val / 64 - 8) / 4 := by rw [hn, hy1]; omega
  have hl : l.val % 64 = (y 1).val % 64 := by rw [hy1]; omega
  have hc : ∀ (x : Vec Ideal S1x256x128 .f32) j, (headOf n fun k => x (ix3 0 j k)) = cacheHead x ⟨((y 1).val / 64 - 8) / 4, by omega⟩ j := fun x j => funext fun d => by
    unfold headOf half cacheHead
    exact congrArg (fun z => x (ix3 0 j z)) (Fin.ext (by show 64 * n.toNat + d.val = 64 * (((y 1).val / 64 - 8) / 4) + d.val; rw [hnn]))
  have hw : ∀ (x : Vec Ideal S2048x128 .bf16) (w : Vec Ideal S512x128 .bf16) (_ : ∀ j k, w (ix2 j k) = x (ix2 ⟨winStart (subRow i s) + j.val, winStart_le i s j⟩ k)) j,
      (headOf n fun k => w (ix2 j k)) = seqHead x ⟨((y 1).val / 64 - 8) / 4, by omega⟩ ⟨winStart (subRow i s) + j.val, winStart_le i s j⟩ := fun x w h j => funext fun d => by
    exact (h j _).trans <| congrArg (fun z => x (ix2 _ z)) (Fin.ext (by show 64 * n.toNat + d.val = 64 * (((y 1).val / 64 - 8) / 4) + d.val; rw [hnn]))
  have hsk : (if l.val < 64 then s0 else s1) = x0 (ix1 ⟨(y 1).val / 64 - 8, by omega⟩) := by
    by_cases h : l.val < 64
    · rw [if_pos h, hs0]
      exact congrArg (fun z => x0 (ix1 z)) (Fin.ext (by show 2 * t.val = (y 1).val / 64 - 8; rw [hy1]; omega))
    · rw [if_neg h, hs1]
      exact congrArg (fun z => x0 (ix1 z)) (Fin.ext (by show 2 * t.val + 1 = (y 1).val / 64 - 8; rw [hy1]; omega))
  simp only [hqd, hc, hw x4 w4 hw4, hw x5 w5 hw5, hl, hsk]
  have hrow : subRow i s + r.val = 512 * i.val + (y 0).val := by rw [hy0]; unfold subRow; omega
  rw [hrow]
  refine mix_window (α := Fin 2048) (fun j : Fin 512 => ⟨winStart (subRow i s) + j.val, winStart_le i s j⟩) (fun a b h => Fin.ext (by have := congrArg Fin.val h; dsimp only at this; omega))
    (fun j : Fin 2048 => if Near (512 * i.val + (y 0).val) j.val then (2 : ℝ) ^ score (query x1 (y 0) ⟨8 + ((y 1).val / 64 - 8), by omega⟩) (seqHead x4 ⟨((y 1).val / 64 - 8) / 4, by omega⟩ j) else 0)
    _ _ (fun j => seqHead x5 ⟨((y 1).val / 64 - 8) / 4, by omega⟩ j ⟨(y 1).val % 64, Nat.mod_lt _ (by norm_num)⟩) _ (fun j hj => if_neg fun hnear => hj ?_)
  unfold Near at hnear
  rw [← hrow] at hnear
  have hb : subRow i s = 512 * i.val + 256 * s.val := rfl
  have hw' : winStart (subRow i s) = min 1536 (subRow i s - 128) := rfl
  exact ⟨⟨j.val - winStart (subRow i s), by omega⟩, Fin.ext (by show winStart (subRow i s) + (j.val - winStart (subRow i s)) = j.val; omega)⟩

end

theorem window_offset : ∀ (i : Fin 4) (s : Fin 2),
    (Scalar.minsi 1536#32 (Scalar.maxsi 0#32 (Scalar.subi (Scalar.addi (Scalar.muli (BitVec.ofNat 32 i.val) 512#32) (BitVec.ofNat 32 (256 * s.val))) 128#32))).toNat
      = winStart (subRow i s) := by decide +kernel

theorem idx2_eq {a b : ℕ} (x : (Shape.mk 2 ![a, b]).Idx) : x = ix2 (x 0) (x 1) := funext fun d => by match d with | 0 => rfl | 1 => rfl

theorem ld_dense (x1 : Vec Ideal S512x1024 .bf16) (t : Fin 4) (inb) (r : Fin 512) (k : Fin 128) :
    k0_pay37 (F := Ideal) (View.ld x1 (Rect.unit ![0, 128 * t.val] ![512, 128] inb)) (ix2 r k) = x1 (ix2 r ⟨128 * t.val + k.val, by omega⟩) * qscale := by
  unfold k0_pay37
  rw [shapeCast_self]
  exact congrArg (· * qscale) <| View.ld_unit_apply_of x1 _ _ _ (ix2 r k) _ (fun (a : Fin 2) => by match a with | 0 => exact (Nat.zero_add _).symm | 1 => rfl)

theorem ld_band (x1 : Vec Ideal S512x1024 .bf16) (s : Fin 2) (t : Fin 4) (inb) (r : Fin 256) (k : Fin 128) :
    k0_pay105 (F := Ideal) (View.ld x1 (Rect.unit ![256 * s.val, 512 + 128 * t.val] ![256, 128] inb)) (ix2 r k)
      = x1 (ix2 ⟨256 * s.val + r.val, by omega⟩ ⟨512 + 128 * t.val + k.val, by omega⟩) * qscale := by
  unfold k0_pay105
  rw [shapeCast_self]
  exact congrArg (· * qscale) <| View.ld_unit_apply_of x1 _ _ _ (ix2 r k) _ (fun (a : Fin 2) => by match a with | 0 => rfl | 1 => rfl)

theorem ld_window (i : grid0.Coords) (s : Fin 2) (x : Vec Ideal S2048x128 .bf16) (inb) (j : Fin 512) (k : Fin 128) :
    View.ld x (Rect.unit (k0_off1 i (BitVec.ofNat 32 (256 * s.val))) ![512, 128] inb) (ix2 j k)
      = x (ix2 ⟨winStart (subRow (i 1) s) + j.val, winStart_le (i 1) s j⟩ k) :=
  View.ld_unit_apply_of x _ _ _ (ix2 j k) _ (fun (a : Fin 2) => by match a with | 0 => exact congrArg (· + j.val) (window_offset (i 1) s).symm | 1 => exact (Nat.zero_add _).symm)

theorem ld_sink (x0 : Vec Ideal S8 .f32) (h : Fin 8) (inb) (x) :
    View.ld x0 (Rect.unit ![h.val] ![1] inb) x = x0 (ix1 h) :=
  View.ld_unit_apply_of _ _ _ _ x _ (fun a => by
    obtain rfl : a = 0 := Subsingleton.elim _ _
    have h1 : (x 0).val < 1 := (x 0).isLt
    have h2 : (x 0).val = 0 := by omega
    show h.val = h.val + (x 0).val
    rw [h2]; rfl)

/-- The point stores `pointVal`. -/
theorem out (c : Dev nD) (i : grid0.Coords) (arg2 : Memref sig .tc .smem S8 .f32) (harg2 : arg2.IsWhole) (arg3 : Memref sig .tc .vmem S512x1024 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S512x1024 .bf16) (harg12 : arg12.IsWhole)
    (x0 : Vec Ideal S8 .f32) (x1 : Vec Ideal S512x1024 .bf16) (x2 x3 x4 x5 : Vec Ideal S2048x128 .bf16) (x6 x7 x8 x9 : Vec Ideal S1x256x128 .f32)
    (hx0 : ∀ k, Num (x0 k)) (hx1 : ∀ k, Num (x1 k)) (hx2 : ∀ k, Num (x2 k)) (hx4 : ∀ k, Num (x4 k)) (hx6 : ∀ k, Num (x6 k)) (hx8 : ∀ k, Num (x8 k)) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9
      = pointVal (i 1) x0 x1 x2 x3 x4 x5 x6 x7 x8 x9 := by
  frame_out
  funext y
  canon_tiles x h using View.cover_of_tiledBy _ ![256, 128] (by sl_kernel_rfl) _
  case piece0 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 true 3 rfl 1
      (k0_pay105 (View.ld x1 (Rect.unit ![256, 896] ![256, 128] inb_S512x1024_S256x128_256_896))) (ld_band x1 1 3 _)
      _ _ (ld_window i 1 x4 _) (ld_window i 1 x5 _) _ rfl _ _ (ld_sink x0 ⟨6, by norm_num⟩ _ _) (ld_sink x0 ⟨7, by norm_num⟩ _ _) r l y (h0.trans rfl) (h1.trans rfl)
  case piece1 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 true 2 rfl 1
      (k0_pay105 (View.ld x1 (Rect.unit ![256, 768] ![256, 128] inb_S512x1024_S256x128_256_768))) (ld_band x1 1 2 _)
      _ _ (ld_window i 1 x4 _) (ld_window i 1 x5 _) _ rfl _ _ (ld_sink x0 ⟨4, by norm_num⟩ _ _) (ld_sink x0 ⟨5, by norm_num⟩ _ _) r l y (h0.trans rfl) (h1.trans rfl)
  case piece2 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 false 1 rfl 1
      (k0_pay105 (View.ld x1 (Rect.unit ![256, 640] ![256, 128] inb_S512x1024_S256x128_256_640))) (ld_band x1 1 1 _)
      _ _ (ld_window i 1 x4 _) (ld_window i 1 x5 _) _ rfl _ _ (ld_sink x0 ⟨2, by norm_num⟩ _ _) (ld_sink x0 ⟨3, by norm_num⟩ _ _) r l y (h0.trans rfl) (h1.trans rfl)
  case piece3 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 false 0 rfl 1
      (k0_pay105 (View.ld x1 (Rect.unit ![256, 512] ![256, 128] inb_S512x1024_S256x128_256_512))) (ld_band x1 1 0 _)
      _ _ (ld_window i 1 x4 _) (ld_window i 1 x5 _) _ rfl _ _ (ld_sink x0 ⟨0, by norm_num⟩ _ _) (ld_sink x0 ⟨1, by norm_num⟩ _ _) r l y (h0.trans rfl) (h1.trans rfl)
  case piece4 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 true 3 rfl 0
      (k0_pay105 (View.ld x1 (Rect.unit ![0, 896] ![256, 128] inb_S512x1024_S256x128_0_896))) (ld_band x1 0 3 _)
      _ _ (ld_window i 0 x4 _) (ld_window i 0 x5 _) _ rfl _ _ (ld_sink x0 ⟨6, by norm_num⟩ _ _) (ld_sink x0 ⟨7, by norm_num⟩ _ _) r l y (h0.trans (Nat.zero_add _).symm) (h1.trans rfl)
  case piece5 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 true 2 rfl 0
      (k0_pay105 (View.ld x1 (Rect.unit ![0, 768] ![256, 128] inb_S512x1024_S256x128_0_768))) (ld_band x1 0 2 _)
      _ _ (ld_window i 0 x4 _) (ld_window i 0 x5 _) _ rfl _ _ (ld_sink x0 ⟨4, by norm_num⟩ _ _) (ld_sink x0 ⟨5, by norm_num⟩ _ _) r l y (h0.trans (Nat.zero_add _).symm) (h1.trans rfl)
  case piece6 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 false 1 rfl 0
      (k0_pay105 (View.ld x1 (Rect.unit ![0, 640] ![256, 128] inb_S512x1024_S256x128_0_640))) (ld_band x1 0 1 _)
      _ _ (ld_window i 0 x4 _) (ld_window i 0 x5 _) _ rfl _ _ (ld_sink x0 ⟨2, by norm_num⟩ _ _) (ld_sink x0 ⟨3, by norm_num⟩ _ _) r l y (h0.trans (Nat.zero_add _).symm) (h1.trans rfl)
  case piece7 =>
    obtain ⟨r, l, rfl⟩ : ∃ (r : Fin 256) (l : Fin 128), x = ix2 r l := ⟨x 0, x 1, idx2_eq x⟩
    exact bandPiece (i 1) x0 x1 x2 x3 x4 x5 x6 x7 x8 x9 hx0 hx1 hx4 hx8 false 0 rfl 0
      (k0_pay105 (View.ld x1 (Rect.unit ![0, 512] ![256, 128] inb_S512x1024_S256x128_0_512))) (ld_band x1 0 0 _)
      _ _ (ld_window i 0 x4 _) (ld_window i 0 x5 _) _ rfl _ _ (ld_sink x0 ⟨0, by norm_num⟩ _ _) (ld_sink x0 ⟨1, by norm_num⟩ _ _) r l y (h0.trans (Nat.zero_add _).symm) (h1.trans rfl)
  case piece8 =>
    obtain ⟨r, l, rfl⟩ : ∃ (r : Fin 512) (l : Fin 128), x = ix2 r l := ⟨x 0, x 1, idx2_eq x⟩
    exact densePiece (i 1) x0 x1 x2 x3 x4 x5 x6 x7 x8 x9 hx1 hx2 hx6 true 3 rfl
      (k0_pay37 (View.ld x1 (Rect.unit ![0, 384] ![512, 128] inb_S512x1024_S512x128_0_384))) (ld_dense x1 3 _) r l y (h0.trans rfl) (h1.trans rfl)
  case piece9 =>
    obtain ⟨r, l, rfl⟩ : ∃ (r : Fin 512) (l : Fin 128), x = ix2 r l := ⟨x 0, x 1, idx2_eq x⟩
    exact densePiece (i 1) x0 x1 x2 x3 x4 x5 x6 x7 x8 x9 hx1 hx2 hx6 true 2 rfl
      (k0_pay37 (View.ld x1 (Rect.unit ![0, 256] ![512, 128] inb_S512x1024_S512x128_0_256))) (ld_dense x1 2 _) r l y (h0.trans rfl) (h1.trans rfl)
  case piece10 =>
    obtain ⟨r, l, rfl⟩ : ∃ (r : Fin 512) (l : Fin 128), x = ix2 r l := ⟨x 0, x 1, idx2_eq x⟩
    exact densePiece (i 1) x0 x1 x2 x3 x4 x5 x6 x7 x8 x9 hx1 hx2 hx6 false 1 rfl
      (k0_pay37 (View.ld x1 (Rect.unit ![0, 128] ![512, 128] inb_S512x1024_S512x128_0_128))) (ld_dense x1 1 _) r l y (h0.trans rfl) (h1.trans rfl)
  case piece11 =>
    obtain ⟨r, l, rfl⟩ : ∃ (r : Fin 512) (l : Fin 128), x = ix2 r l := ⟨x 0, x 1, idx2_eq x⟩
    exact densePiece (i 1) x0 x1 x2 x3 x4 x5 x6 x7 x8 x9 hx1 hx2 hx6 false 0 rfl
      (k0_pay37 (View.ld x1 (Rect.unit ![0, 0] ![512, 128] inb_S512x1024_S512x128_0_0))) (ld_dense x1 0 _) r l y (h0.trans rfl) (h1.trans (Nat.zero_add _).symm)

end Cert.AttnIdeal.Point

end
-- ==== Proof.AttnWindow.lean ====
/-
  The attention kernel's result over the extended reals: every element is `attention` of the arguments.
-/
module

public import proofs.«01_k».proof.Proof.AttnPoint
public import Idealize.ShloMosaic.Lib.Pipeline.Value

@[expose] public section

set_option maxRecDepth 16384

noncomputable section

namespace Cert.AttnIdeal.Whole

open Cert.AttnIdeal Cert.AttnIdeal.Gen Cert.AttnIdeal.Point Cert.Attend Idealize.ShloMosaic Idealize.ShloMosaic.TcCoe Idealize.SL.Sem
open scoped BigOperators

variable (m : (ℓ : Loc nD τ sig) → Buf (Elt Ideal) ℓ)

/-- The index maps and coordinates: point `t` is batch `t / 4`, block `t % 4` of 512 rows. -/
theorem maps : ∀ t : Fin cfg0.N,
    (win0_1.index t 0 = t.val ∧ win0_1.index t 1 = 0)
    ∧ (win0_2.index t 0 = t.val / 4 ∧ win0_2.index t 1 = 0) ∧ (win0_3.index t 0 = t.val / 4 ∧ win0_3.index t 1 = 0)
    ∧ (win0_4.index t 0 = t.val / 4 ∧ win0_4.index t 1 = 0) ∧ (win0_5.index t 0 = t.val / 4 ∧ win0_5.index t 1 = 0)
    ∧ (win0_6.index t 0 = t.val / 4 ∧ win0_6.index t 1 = 0 ∧ win0_6.index t 2 = 0) ∧ (win0_7.index t 0 = t.val / 4 ∧ win0_7.index t 1 = 0 ∧ win0_7.index t 2 = 0)
    ∧ (win0_8.index t 0 = t.val / 4 ∧ win0_8.index t 1 = 0 ∧ win0_8.index t 2 = 0) ∧ (win0_9.index t 0 = t.val / 4 ∧ win0_9.index t 1 = 0 ∧ win0_9.index t 2 = 0)
    ∧ (win0_10.index t 0 = t.val ∧ win0_10.index t 1 = 0)
    ∧ ((grid0.coords t) 1).val = t.val % 4 ∧ t.val < 16 :=
  (by decide +kernel : ∀ t : Fin grid0.N, _)

theorem map_sink : ∀ t : Fin cfg0.N, win0_0.index t 0 = 0 := (by decide +kernel : ∀ t : Fin grid0.N, _)
theorem lt16 (t : Fin cfg0.N) : t.val < 16 := (maps t).2.2.2.2.2.2.2.2.2.2.2

/-- Heads of 64 lanes side by side, read back. -/
theorem heads8 (X : Vec Ideal S4x2048x8x64 .f32) (h) (y : S8192x512.Idx) (b : Fin 4) (p : Fin 2048) (g : Fin 8) (d : Fin 64)
    (h0 : (y 0).val = 2048 * b.val + p.val) (h1 : (y 1).val = 64 * g.val + d.val) : shapeCast S8192x512 X h y = X (ix4 b p g d) := by
  pointwise
  refine congrArg X (funext fun a => Fin.ext ?_)
  match a with
  | ⟨0, _⟩ => show (y 0).val / 2048 = b.val; omega
  | ⟨1, _⟩ => show (y 0).val % 2048 = p.val; omega
  | ⟨2, _⟩ => show (y 1).val / 64 = g.val; omega
  | ⟨3, _⟩ => show (y 1).val % 64 = d.val; omega
theorem heads2 (X : Vec Ideal S4x2048x2x64 .f32) (h) (y : S8192x128.Idx) (b : Fin 4) (p : Fin 2048) (g : Fin 2) (d : Fin 64)
    (h0 : (y 0).val = 2048 * b.val + p.val) (h1 : (y 1).val = 64 * g.val + d.val) : shapeCast S8192x128 X h y = X (ix4 b p g d) := by
  pointwise
  refine congrArg X (funext fun a => Fin.ext ?_)
  match a with
  | ⟨0, _⟩ => show (y 0).val / 2048 = b.val; omega
  | ⟨1, _⟩ => show (y 0).val % 2048 = p.val; omega
  | ⟨2, _⟩ => show (y 1).val / 64 = g.val; omega
  | ⟨3, _⟩ => show (y 1).val % 64 = d.val; omega
theorem headsC (X : Vec Ideal S4x256x2x64 .f32) (h) (y : S4x256x128.Idx) (b : Fin 4) (j : Fin 256) (g : Fin 2) (d : Fin 64)
    (h0 : (y 0).val = b.val) (h1 : (y 1).val = j.val) (h2 : (y 2).val = 64 * g.val + d.val) : shapeCast S4x256x128 X h y = X (ix4 b j g d) := by
  pointwise
  refine congrArg X (funext fun a => Fin.ext ?_)
  match a with
  | ⟨0, _⟩ => exact h0
  | ⟨1, _⟩ => exact h1
  | ⟨2, _⟩ => show (y 2).val / 64 = g.val; omega
  | ⟨3, _⟩ => show (y 2).val % 64 = d.val; omega

/-- The queries of a block: eight heads of the first group, eight of the second. -/
theorem blk_q (c : Dev nD) (t : Fin cfg0.N) (r : Fin 512) (k : Fin 1024) (b : Fin 4) (hb : b.val = t.val / 4) (p : Fin 2048) (hp : p.val = 512 * (t.val % 4) + r.val) :
    (iblk m c 1 t : Vec Ideal S512x1024 .bf16) (ix2 r k)
      = if h : k.val < 512 then m ((c : Thread nD τ).loc main_arg1) (ix4 b p ⟨k.val / 64, by omega⟩ ⟨k.val % 64, Nat.mod_lt _ (by norm_num)⟩)
        else m ((c : Thread nD τ).loc main_arg4) (ix4 b p ⟨k.val / 64 - 8, by omega⟩ ⟨k.val % 64, Nat.mod_lt _ (by norm_num)⟩) := by
  obtain ⟨⟨i0, i1⟩, -⟩ := maps t
  have ht := lt16 t
  unfold iblk
  rw [View.read_apply]
  show V m c main_v3 _ = _
  entry_read
  have hi : ((cfg0.win 1).blk t).view.emb (ix2 r k) = ix2 ⟨512 * t.val + r.val, by omega⟩ k := by
    funext a
    apply Fin.ext
    match a with
    | ⟨0, _⟩ => show win0_1.index t 0 * 512 + 1 * r.val = 512 * t.val + r.val; omega
    | ⟨1, _⟩ => show win0_1.index t 1 * 1024 + 1 * k.val = k.val; omega
  refine (congrArg _ hi).trans ?_
  pointwise
  have e0 : (⟨(512 * t.val + r.val) / 2048, by omega⟩ : Fin 4) = b := Fin.ext (by show _ / _ = _; omega)
  have e1 : (⟨(512 * t.val + r.val) % 2048, Nat.mod_lt _ (by norm_num)⟩ : Fin 2048) = p := Fin.ext (by show _ % _ = _; omega)
  by_cases h : k.val < 512
  · simp only [dif_pos h, e0, e1]
  · simp only [dif_neg h, e0, e1]
    have e2 : (⟨(k.val - 512) / 64, by omega⟩ : Fin 8) = ⟨k.val / 64 - 8, by omega⟩ := Fin.ext (by show _ / _ = _ - _; omega)
    have e3 : (⟨(k.val - 512) % 64, Nat.mod_lt _ (by norm_num)⟩ : Fin 64) = ⟨k.val % 64, Nat.mod_lt _ (by norm_num)⟩ := Fin.ext (by show _ % _ = _ % _; omega)
    simp only [e2, e3]

/-- The sequence's keys and values of a block's batch. -/
theorem blk_ka (c : Dev nD) (t : Fin cfg0.N) (j : Fin 2048) (n : Fin 2) (d : Fin 64) (b : Fin 4) (hb : b.val = t.val / 4) :
    (iblk m c 2 t : Vec Ideal S2048x128 .bf16) (ix2 j ⟨64 * n.val + d.val, by omega⟩) = m ((c : Thread nD τ).loc main_arg2) (ix4 b j n d) := by
  obtain ⟨-, ⟨i0, i1⟩, -⟩ := maps t
  unfold iblk
  rw [View.read_apply]
  show V m c main_v5 _ = _
  entry_read
  refine heads2 _ _ _ b j n d ?_ ?_
  · show win0_2.index t 0 * 2048 + 1 * j.val = _; omega
  · show win0_2.index t 1 * 128 + 1 * (64 * n.val + d.val) = _; omega
theorem blk_va (c : Dev nD) (t : Fin cfg0.N) (j : Fin 2048) (n : Fin 2) (d : Fin 64) (b : Fin 4) (hb : b.val = t.val / 4) :
    (iblk m c 3 t : Vec Ideal S2048x128 .bf16) (ix2 j ⟨64 * n.val + d.val, by omega⟩) = m ((c : Thread nD τ).loc main_arg3) (ix4 b j n d) := by
  obtain ⟨-, -, ⟨i0, i1⟩, -⟩ := maps t
  unfold iblk
  rw [View.read_apply]
  show V m c main_v7 _ = _
  entry_read
  refine heads2 _ _ _ b j n d ?_ ?_
  · show win0_3.index t 0 * 2048 + 1 * j.val = _; omega
  · show win0_3.index t 1 * 128 + 1 * (64 * n.val + d.val) = _; omega
theorem blk_kb (c : Dev nD) (t : Fin cfg0.N) (j : Fin 2048) (n : Fin 2) (d : Fin 64) (b : Fin 4) (hb : b.val = t.val / 4) :
    (iblk m c 4 t : Vec Ideal S2048x128 .bf16) (ix2 j ⟨64 * n.val + d.val, by omega⟩) = m ((c : Thread nD τ).loc main_arg5) (ix4 b j n d) := by
  obtain ⟨-, -, -, ⟨i0, i1⟩, -⟩ := maps t
  unfold iblk
  rw [View.read_apply]
  show V m c main_v9 _ = _
  entry_read
  refine heads2 _ _ _ b j n d ?_ ?_
  · show win0_4.index t 0 * 2048 + 1 * j.val = _; omega
  · show win0_4.index t 1 * 128 + 1 * (64 * n.val + d.val) = _; omega
theorem blk_vb (c : Dev nD) (t : Fin cfg0.N) (j : Fin 2048) (n : Fin 2) (d : Fin 64) (b : Fin 4) (hb : b.val = t.val / 4) :
    (iblk m c 5 t : Vec Ideal S2048x128 .bf16) (ix2 j ⟨64 * n.val + d.val, by omega⟩) = m ((c : Thread nD τ).loc main_arg6) (ix4 b j n d) := by
  obtain ⟨-, -, -, -, ⟨i0, i1⟩, -⟩ := maps t
  unfold iblk
  rw [View.read_apply]
  show V m c main_v11 _ = _
  entry_read
  refine heads2 _ _ _ b j n d ?_ ?_
  · show win0_5.index t 0 * 2048 + 1 * j.val = _; omega
  · show win0_5.index t 1 * 128 + 1 * (64 * n.val + d.val) = _; omega

/-- The cached keys and values of a block's batch. -/
theorem blk_cka (c : Dev nD) (t : Fin cfg0.N) (j : Fin 256) (n : Fin 2) (d : Fin 64) (b : Fin 4) (hb : b.val = t.val / 4) :
    (iblk m c 6 t : Vec Ideal S1x256x128 .f32) (ix3 0 j ⟨64 * n.val + d.val, by omega⟩) = m ((c : Thread nD τ).loc main_arg7) (ix4 b j n d) := by
  obtain ⟨-, -, -, -, -, ⟨i0, i1, i2⟩, -⟩ := maps t
  unfold iblk
  rw [View.read_apply]
  show V m c main_v12 _ = _
  entry_read
  refine headsC _ _ _ b j n d ?_ ?_ ?_
  · show win0_6.index t 0 * 1 + 1 * 0 = _; omega
  · show win0_6.index t 1 * 256 + 1 * j.val = _; omega
  · show win0_6.index t 2 * 128 + 1 * (64 * n.val + d.val) = _; omega
theorem blk_cva (c : Dev nD) (t : Fin cfg0.N) (j : Fin 256) (n : Fin 2) (d : Fin 64) (b : Fin 4) (hb : b.val = t.val / 4) :
    (iblk m c 7 t : Vec Ideal S1x256x128 .f32) (ix3 0 j ⟨64 * n.val + d.val, by omega⟩) = m ((c : Thread nD τ).loc main_arg8) (ix4 b j n d) := by
  obtain ⟨-, -, -, -, -, -, ⟨i0, i1, i2⟩, -⟩ := maps t
  unfold iblk
  rw [View.read_apply]
  show V m c main_v13 _ = _
  entry_read
  refine headsC _ _ _ b j n d ?_ ?_ ?_
  · show win0_7.index t 0 * 1 + 1 * 0 = _; omega
  · show win0_7.index t 1 * 256 + 1 * j.val = _; omega
  · show win0_7.index t 2 * 128 + 1 * (64 * n.val + d.val) = _; omega
theorem blk_ckb (c : Dev nD) (t : Fin cfg0.N) (j : Fin 256) (n : Fin 2) (d : Fin 64) (b : Fin 4) (hb : b.val = t.val / 4) :
    (iblk m c 8 t : Vec Ideal S1x256x128 .f32) (ix3 0 j ⟨64 * n.val + d.val, by omega⟩) = m ((c : Thread nD τ).loc main_arg9) (ix4 b j n d) := by
  obtain ⟨-, -, -, -, -, -, -, ⟨i0, i1, i2⟩, -⟩ := maps t
  unfold iblk
  rw [View.read_apply]
  show V m c main_v14 _ = _
  entry_read
  refine headsC _ _ _ b j n d ?_ ?_ ?_
  · show win0_8.index t 0 * 1 + 1 * 0 = _; omega
  · show win0_8.index t 1 * 256 + 1 * j.val = _; omega
  · show win0_8.index t 2 * 128 + 1 * (64 * n.val + d.val) = _; omega
theorem blk_cvb (c : Dev nD) (t : Fin cfg0.N) (j : Fin 256) (n : Fin 2) (d : Fin 64) (b : Fin 4) (hb : b.val = t.val / 4) :
    (iblk m c 9 t : Vec Ideal S1x256x128 .f32) (ix3 0 j ⟨64 * n.val + d.val, by omega⟩) = m ((c : Thread nD τ).loc main_arg10) (ix4 b j n d) := by
  obtain ⟨-, -, -, -, -, -, -, -, ⟨i0, i1, i2⟩, -⟩ := maps t
  unfold iblk
  rw [View.read_apply]
  show V m c main_v15 _ = _
  entry_read
  refine headsC _ _ _ b j n d ?_ ?_ ?_
  · show win0_9.index t 0 * 1 + 1 * 0 = _; omega
  · show win0_9.index t 1 * 256 + 1 * j.val = _; omega
  · show win0_9.index t 2 * 128 + 1 * (64 * n.val + d.val) = _; omega

/-- The sink logits are staged whole. -/
theorem blk_sink (c : Dev nD) (t : Fin cfg0.N) (h : Fin 8) : (iblk m c 0 t : Vec Ideal S8 .f32) (ix1 h) = m ((c : Thread nD τ).loc main_arg0) (ix1 h) := by
  unfold iblk
  rw [View.read_apply]
  show V m c main_arg0 _ = _
  rw [V_main_arg0]
  congr 1
  funext a
  apply Fin.ext
  match a with
  | ⟨0, _⟩ =>
    refine (congrArg (fun n => n * 8 + 1 * h.val) (map_sink t)).trans ?_
    show 0 * 8 + 1 * h.val = h.val
    omega

end Cert.AttnIdeal.Whole

end
-- ==== Proof.AttnValue.lean ====
/-
  The attention kernel's result over the extended reals: every element is `attention` of the arguments.
-/
module

public import proofs.«01_k».proof.Proof.AttnWindow

@[expose] public section

set_option maxRecDepth 16384

noncomputable section

namespace Cert.AttnIdeal.Point

open Cert.AttnIdeal Cert.AttnIdeal.Gen Cert.AttnIdeal.Head Cert.Attend Idealize.ShloMosaic
open scoped BigOperators

theorem two_query (x1 : Vec Ideal S512x1024 .bf16) (r : Fin 512) (h : Fin 16) (q k k' : Fin 64 → EReal)
    (hq : ∀ d : Fin 64, x1 (ix2 r ⟨64 * h.val + d.val, by omega⟩) = q d) (hk : ∀ d, k d = k' d) : (2 : ℝ) ^ score (query x1 r h) k = Real.exp (logit q k') := by
  have e1 : query x1 r h = fun d => q d * qscale := funext fun d => congrArg (· * qscale) (hq d)
  have e2 : k = k' := funext hk
  rw [e1, e2]
  exact two_rpow_score q k'

/-- A dense head's element, from what its windows hold. -/
theorem dense_of (x1 : Vec Ideal S512x1024 .bf16) (x2 x3 : Vec Ideal S2048x128 .bf16) (x6 x7 : Vec Ideal S1x256x128 .f32) (r : Fin 512) (h : Fin 8) (d : Fin 64)
    (q : Fin 64 → EReal) (kc : Fin 256 → Fin 64 → EReal) (ks : Fin 2048 → Fin 64 → EReal) (vc : Fin 256 → EReal) (vs : Fin 2048 → EReal)
    (hq : ∀ e : Fin 64, x1 (ix2 r ⟨64 * h.val + e.val, by omega⟩) = q e)
    (hkc : ∀ j e, cacheHead x6 ⟨h.val / 4, by omega⟩ j e = kc j e) (hks : ∀ j e, seqHead x2 ⟨h.val / 4, by omega⟩ j e = ks j e)
    (hvc : ∀ j, cacheHead x7 ⟨h.val / 4, by omega⟩ j d = vc j) (hvs : ∀ j, seqHead x3 ⟨h.val / 4, by omega⟩ j d = vs j) :
    denseVal x1 x2 x3 x6 x7 r h d = dense q kc ks vc vs := by
  unfold denseVal dense
  have e1 := funext fun j => two_query x1 r ⟨h.val, by omega⟩ q _ _ hq (hkc j)
  have e2 := funext fun j => two_query x1 r ⟨h.val, by omega⟩ q _ _ hq (hks j)
  rw [e1, e2, funext hvc, funext hvs]

/-- A banded head's element, from what its windows hold. -/
theorem band_of (i : Fin 4) (x0 : Vec Ideal S8 .f32) (x1 : Vec Ideal S512x1024 .bf16) (x4 x5 : Vec Ideal S2048x128 .bf16) (x8 x9 : Vec Ideal S1x256x128 .f32) (r : Fin 512) (h : Fin 8) (d : Fin 64)
    (p : ℕ) (hp : 512 * i.val + r.val = p) (s : EReal)
    (q : Fin 64 → EReal) (kc : Fin 256 → Fin 64 → EReal) (ks : Fin 2048 → Fin 64 → EReal) (vc : Fin 256 → EReal) (vs : Fin 2048 → EReal)
    (hs : x0 (ix1 h) = s) (hq : ∀ e : Fin 64, x1 (ix2 r ⟨64 * (8 + h.val) + e.val, by omega⟩) = q e)
    (hkc : ∀ j e, cacheHead x8 ⟨h.val / 4, by omega⟩ j e = kc j e) (hks : ∀ j e, seqHead x4 ⟨h.val / 4, by omega⟩ j e = ks j e)
    (hvc : ∀ j, cacheHead x9 ⟨h.val / 4, by omega⟩ j d = vc j) (hvs : ∀ j, seqHead x5 ⟨h.val / 4, by omega⟩ j d = vs j) :
    bandVal i x0 x1 x4 x5 x8 x9 r h d = band p s q ks kc vs vc := by
  unfold bandVal band
  subst hp
  have e1 := funext fun j => two_query x1 r ⟨8 + h.val, by omega⟩ q _ _ hq (hkc j)
  have e2 : (fun j : Fin 2048 => if Near (512 * i.val + r.val) j.val then (2 : ℝ) ^ score (query x1 r ⟨8 + h.val, by omega⟩) (seqHead x4 ⟨h.val / 4, by omega⟩ j) else 0)
      = fun j => if Near (512 * i.val + r.val) j.val then Real.exp (logit q (ks j)) else 0 := funext fun j => if_congr Iff.rfl (two_query x1 r ⟨8 + h.val, by omega⟩ q _ _ hq (hks j)) rfl
  have e3 : sinkWeight (x0 (ix1 h)) = Real.exp s.toReal := by rw [hs]; exact two_rpow_div _
  rw [e1, e2, e3, funext hvc, funext hvs]

end Cert.AttnIdeal.Point

namespace Cert.AttnIdeal.Whole

open Cert.AttnIdeal Cert.AttnIdeal.Gen Cert.AttnIdeal.Point Cert.Attend Idealize.ShloMosaic Idealize.ShloMosaic.TcCoe Idealize.SL.Sem
open scoped BigOperators

variable (m : (ℓ : Loc nD τ sig) → Buf (Elt Ideal) ℓ)

/-- The result the kernel computes, from the arguments. -/
def result (c : Dev nD) (b : Fin 4) (p : Fin 2048) (k : Fin 1024) : EReal :=
  attention (fun h => m ((c : Thread nD τ).loc main_arg0) (ix1 h)) (fun b p h d => m ((c : Thread nD τ).loc main_arg1) (ix4 b p h d))
    (fun b p h d => m ((c : Thread nD τ).loc main_arg2) (ix4 b p h d)) (fun b p h d => m ((c : Thread nD τ).loc main_arg3) (ix4 b p h d))
    (fun b p h d => m ((c : Thread nD τ).loc main_arg4) (ix4 b p h d)) (fun b p h d => m ((c : Thread nD τ).loc main_arg5) (ix4 b p h d))
    (fun b p h d => m ((c : Thread nD τ).loc main_arg6) (ix4 b p h d)) (fun b p h d => m ((c : Thread nD τ).loc main_arg7) (ix4 b p h d))
    (fun b p h d => m ((c : Thread nD τ).loc main_arg8) (ix4 b p h d)) (fun b p h d => m ((c : Thread nD τ).loc main_arg9) (ix4 b p h d))
    (fun b p h d => m ((c : Thread nD τ).loc main_arg10) (ix4 b p h d)) b p k

/-- The queries of the first eight heads, and of the others. -/
theorem blk_q_dense (c : Dev nD) (t : Fin cfg0.N) (r : Fin 512) (h : Fin 8) (e : Fin 64) (b : Fin 4) (hb : b.val = t.val / 4) (p : Fin 2048) (hp : p.val = 512 * (t.val % 4) + r.val) :
    (iblk m c 1 t : Vec Ideal S512x1024 .bf16) (ix2 r ⟨64 * h.val + e.val, by omega⟩) = m ((c : Thread nD τ).loc main_arg1) (ix4 b p h e) := by
  refine (blk_q m c t r _ b hb p hp).trans ?_
  have e1 : (⟨(64 * h.val + e.val) / 64, by omega⟩ : Fin 8) = h := Fin.ext (by show _ / _ = _; omega)
  have e2 : (⟨(64 * h.val + e.val) % 64, Nat.mod_lt _ (by norm_num)⟩ : Fin 64) = e := Fin.ext (by show _ % _ = _; omega)
  rw [dif_pos (by show 64 * h.val + e.val < 512; omega)]
  exact congrArg₂ (fun u v => m ((c : Thread nD τ).loc main_arg1) (ix4 b p u v)) e1 e2
theorem blk_q_band (c : Dev nD) (t : Fin cfg0.N) (r : Fin 512) (h : Fin 8) (e : Fin 64) (b : Fin 4) (hb : b.val = t.val / 4) (p : Fin 2048) (hp : p.val = 512 * (t.val % 4) + r.val) :
    (iblk m c 1 t : Vec Ideal S512x1024 .bf16) (ix2 r ⟨64 * (8 + h.val) + e.val, by omega⟩) = m ((c : Thread nD τ).loc main_arg4) (ix4 b p h e) := by
  refine (blk_q m c t r _ b hb p hp).trans ?_
  have e1 : (⟨(64 * (8 + h.val) + e.val) / 64 - 8, by omega⟩ : Fin 8) = h := Fin.ext (by show _ / _ - _ = _; omega)
  have e2 : (⟨(64 * (8 + h.val) + e.val) % 64, Nat.mod_lt _ (by norm_num)⟩ : Fin 64) = e := Fin.ext (by show _ % _ = _; omega)
  rw [dif_neg (by show ¬(64 * (8 + h.val) + e.val < 512); omega)]
  exact congrArg₂ (fun u v => m ((c : Thread nD τ).loc main_arg4) (ix4 b p u v)) e1 e2

/-- What a point stores, from the arguments. -/
theorem point_value (c : Dev nD) (t : Fin cfg0.N) (r : Fin 512) (k : Fin 1024) (b : Fin 4) (hb : b.val = t.val / 4) (p : Fin 2048) (hp : p.val = 512 * (t.val % 4) + r.val) :
    pointVal ((grid0.coords t) 1) (iblk m c 0 t) (iblk m c 1 t) (iblk m c 2 t) (iblk m c 3 t) (iblk m c 4 t) (iblk m c 5 t) (iblk m c 6 t) (iblk m c 7 t) (iblk m c 8 t) (iblk m c 9 t) (ix2 r k)
      = result m c b p k := by
  have hco : ((grid0.coords t) 1).val = t.val % 4 := (maps t).2.2.2.2.2.2.2.2.2.2.1
  unfold pointVal result attention
  by_cases hk : k.val < 512
  · rw [dif_pos hk, dif_pos (show ((ix2 r k : S512x1024.Idx) 1).val < 512 from hk)]
    exact dense_of _ _ _ _ _ r ⟨k.val / 64, by omega⟩ ⟨k.val % 64, Nat.mod_lt _ (by norm_num)⟩ _ _ _ _ _
      (fun e => blk_q_dense m c t r ⟨k.val / 64, by omega⟩ e b hb p hp)
      (fun j e => blk_cka m c t j ⟨k.val / 64 / 4, by omega⟩ e b hb) (fun j e => blk_ka m c t j ⟨k.val / 64 / 4, by omega⟩ e b hb)
      (fun j => blk_cva m c t j ⟨k.val / 64 / 4, by omega⟩ _ b hb) (fun j => blk_va m c t j ⟨k.val / 64 / 4, by omega⟩ _ b hb)
  · rw [dif_neg hk, dif_neg (show ¬((ix2 r k : S512x1024.Idx) 1).val < 512 from hk)]
    exact band_of _ _ _ _ _ _ _ r ⟨k.val / 64 - 8, by omega⟩ ⟨k.val % 64, Nat.mod_lt _ (by norm_num)⟩ p.val (by rw [hp, hco]) _ _ _ _ _ _
      (blk_sink m c t ⟨k.val / 64 - 8, by omega⟩)
      (fun e => blk_q_band m c t r ⟨k.val / 64 - 8, by omega⟩ e b hb p hp)
      (fun j e => blk_ckb m c t j ⟨(k.val / 64 - 8) / 4, by omega⟩ e b hb) (fun j e => blk_kb m c t j ⟨(k.val / 64 - 8) / 4, by omega⟩ e b hb)
      (fun j => blk_cvb m c t j ⟨(k.val / 64 - 8) / 4, by omega⟩ _ b hb) (fun j => blk_vb m c t j ⟨(k.val / 64 - 8) / 4, by omega⟩ _ b hb)

/-- Windows hold numbers where the arguments do. -/
theorem num_seq (x : Vec Ideal S2048x128 .bf16) (g : Fin 2048 → Fin 2 → Fin 64 → EReal) (hg : ∀ j n d, Num (g j n d))
    (h : ∀ (j : Fin 2048) (n : Fin 2) (d : Fin 64), x (ix2 j ⟨64 * n.val + d.val, by omega⟩) = g j n d) (k : S2048x128.Idx) : Num (x k) := by
  have h1 : (k 1).val < 128 := (k 1).isLt
  have e : k = ix2 (k 0) ⟨64 * ((k 1).val / 64) + (k 1).val % 64, by omega⟩ := (idx2_eq k).trans (congrArg (fun z => ix2 (k 0) z) (Fin.ext (by show (k 1).val = 64 * ((k 1).val / 64) + (k 1).val % 64; omega)))
  rw [e]
  exact (congrArg Num (h (k 0) ⟨(k 1).val / 64, by omega⟩ ⟨(k 1).val % 64, Nat.mod_lt _ (by norm_num)⟩)).mpr (hg _ _ _)
theorem num_cache (x : Vec Ideal S1x256x128 .f32) (g : Fin 256 → Fin 2 → Fin 64 → EReal) (hg : ∀ j n d, Num (g j n d))
    (h : ∀ (j : Fin 256) (n : Fin 2) (d : Fin 64), x (ix3 0 j ⟨64 * n.val + d.val, by omega⟩) = g j n d) (k : S1x256x128.Idx) : Num (x k) := by
  have h0 : (k 0).val < 1 := (k 0).isLt
  have h1 : (k 2).val < 128 := (k 2).isLt
  have e : k = ix3 0 (k 1) ⟨64 * ((k 2).val / 64) + (k 2).val % 64, by omega⟩ := funext fun a => Fin.ext (by
    match a with
    | ⟨0, _⟩ => show (k 0).val = 0; omega
    | ⟨1, _⟩ => rfl
    | ⟨2, _⟩ => show (k 2).val = 64 * ((k 2).val / 64) + (k 2).val % 64; omega)
  rw [e]
  exact (congrArg Num (h (k 1) ⟨(k 2).val / 64, by omega⟩ ⟨(k 2).val % 64, Nat.mod_lt _ (by norm_num)⟩)).mpr (hg _ _ _)

variable (h0 : ∀ c k, Num (m ((c : Dev nD).tc.loc main_arg0) k)) (h1 : ∀ c k, Num (m ((c : Dev nD).tc.loc main_arg1) k)) (h2 : ∀ c k, Num (m ((c : Dev nD).tc.loc main_arg2) k))
  (h4 : ∀ c k, Num (m ((c : Dev nD).tc.loc main_arg4) k)) (h5 : ∀ c k, Num (m ((c : Dev nD).tc.loc main_arg5) k)) (h7 : ∀ c k, Num (m ((c : Dev nD).tc.loc main_arg7) k)) (h9 : ∀ c k, Num (m ((c : Dev nD).tc.loc main_arg9) k))

include h1 h4 in
theorem num_q (c : Dev nD) (t : Fin cfg0.N) (k : S512x1024.Idx) : Num ((iblk m c 1 t : Vec Ideal S512x1024 .bf16) k) := by
  have ht := lt16 t
  have hk : (k 0).val < 512 := (k 0).isLt
  rw [idx2_eq k]
  refine (congrArg Num (blk_q m c t (k 0) (k 1) ⟨t.val / 4, by omega⟩ rfl ⟨512 * (t.val % 4) + (k 0).val, by omega⟩ rfl)).mpr ?_
  split
  · exact h1 c _
  · exact h4 c _

include h0 in
theorem num_s (c : Dev nD) (t : Fin cfg0.N) (k : S8.Idx) : Num ((iblk m c 0 t : Vec Ideal S8 .f32) k) := by
  have e : k = ix1 (k 0) := funext fun a => by match a with | ⟨0, _⟩ => rfl
  rw [e]
  exact (congrArg Num (blk_sink m c t (k 0))).mpr (h0 c _)

include h0 h1 h2 h4 h5 h7 h9 in
/-- What a point writes back. -/
theorem flushed (c : Dev nD) (t : Fin cfg0.N) (r : Fin 512) (k : Fin 1024) (b : Fin 4) (hb : b.val = t.val / 4) (p : Fin 2048) (hp : p.val = 512 * (t.val % 4) + r.val) :
    ((dats m 0 c).flushed 10 t : Vec Ideal S512x1024 .bf16) (ix2 r k) = result m c b p k := by
  have ht := lt16 t
  have hb' : (⟨t.val / 4, by omega⟩ : Fin 4).val = t.val / 4 := rfl
  rw [Value.flushed10_A]
  refine Eq.trans ?_ (point_value m c t r k b hb p hp)
  refine Eq.trans ?_ (congrFun (Point.out c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ _ _ _ _ _ _ _ _ _
    (num_s m h0 c t) (num_q m h1 h4 c t)
    (num_seq _ _ (fun _ _ _ => h2 c _) fun j n d => blk_ka m c t j n d _ hb') (num_seq _ _ (fun _ _ _ => h5 c _) fun j n d => blk_kb m c t j n d _ hb')
    (num_cache _ _ (fun _ _ _ => h7 c _) fun j n d => blk_cka m c t j n d _ hb') (num_cache _ _ (fun _ _ _ => h9 c _) fun j n d => blk_ckb m c t j n d _ hb')) (ix2 r k))
  rfl

/-- Every point writes its block back. -/
theorem flushes : ∀ t : Fin cfg0.N, (cfg0.win 10).flush t = true := (by decide +kernel : ∀ t : Fin grid0.N, _)

include h0 h1 h2 h4 h5 h7 h9 in
/-- The kernel's result. -/
theorem kernel_value (c : Dev nD) (b : Fin 4) (p : Fin 2048) (k : Fin 1024) :
    ((dats m 0 c).arrAt 10 cfg0.N : Vec Ideal S8192x1024 .bf16) (ix2 ⟨2048 * b.val + p.val, by omega⟩ k) = result m c b p k := by
  let t : Fin cfg0.N := ⟨4 * b.val + p.val / 512, by show _ < 16; omega⟩
  have htv : t.val = 4 * b.val + p.val / 512 := rfl
  obtain ⟨-, -, -, -, -, -, -, -, -, ⟨i0, i1⟩, -⟩ := maps t
  have hr : p.val % 512 < 512 := Nat.mod_lt _ (by norm_num)
  have h := flushed m h0 h1 h2 h4 h5 h7 h9 c t ⟨p.val % 512, hr⟩ k b (by omega) p (by show p.val = _ + p.val % 512; omega)
  have hi : ((cfg0.win 10).blk t).view.emb (ix2 ⟨p.val % 512, hr⟩ k) = ix2 ⟨2048 * b.val + p.val, by omega⟩ k := by
    funext a
    apply Fin.ext
    match a with
    | ⟨0, _⟩ => show win0_10.index t 0 * 512 + 1 * (p.val % 512) = 2048 * b.val + p.val; omega
    | ⟨1, _⟩ => show win0_10.index t 1 * 1024 + 1 * k.val = k.val; omega
  refine Eq.trans ?_ (((View.read_apply ..).symm.trans (congrFun (Value.blocks10 m c t (flushes t)) (ix2 ⟨p.val % 512, hr⟩ k))).trans h)
  exact congrArg _ hi.symm

end Cert.AttnIdeal.Whole

end
-- ==== Proof.AttnSoftmax.lean ====
/-
  A softmax row over the extended reals: subtracting any number from the scores gives the same normalised weights, and the
  largest element of a row of a rank-5 array is a number where the row holds one.
-/
module

public import proofs.«01_k».proof.Proof.AttnSpec
public import Idealize.ShloMosaic.Lib.Pipeline.Value

@[expose] public section

noncomputable section

namespace Cert.Attend

open Idealize.ShloMosaic
open scoped BigOperators

/-- The weight of a score; a score of minus infinity weighs nothing. -/
def ew (s : EReal) : ℝ := (Ideal.exp s).toReal

theorem ew_coe (x : ℝ) : ew (x : EReal) = Real.exp x := by
  unfold ew; rw [Ideal.exp_coe, EReal.toReal_coe]
theorem ew_bot : ew ⊥ = 0 := by
  unfold ew; rw [Ideal.exp_bot, EReal.toReal_zero]
theorem ew_nonneg (s : EReal) (hs : s < ⊤) : 0 ≤ ew s := by
  induction s using EReal.rec with
  | bot => rw [ew_bot]
  | coe x => rw [ew_coe]; positivity
  | top => exact absurd hs (lt_irrefl _)

/-- Taking a number off a score divides its weight. -/
theorem exp_weight (s : EReal) (hs : s < ⊤) (m : EReal) (hm : Num m) : Ideal.exp (s - m) = ((ew s * Real.exp (-m.toReal) : ℝ) : EReal) := by
  rw [hm, EReal.toReal_coe]
  induction s using EReal.rec with
  | bot => rw [EReal.bot_sub, Ideal.exp_bot, ew_bot, zero_mul, EReal.coe_zero]
  | coe x => rw [exp_sub, ew_coe]
  | top => exact absurd hs (lt_irrefl _)

/-- A normalised weight of a row of scores, one of which is a number. -/
theorem softmax_weight {α : Type} [Fintype α] (s : α → EReal) (hs : ∀ a, s a < ⊤) (a0 : α) (h0 : ⊥ < s a0) (m : EReal) (hm : Num m) (a : α) :
    Ideal.div (Ideal.exp (s a - m)) (0 + ∑ b, Ideal.exp (s b - m)) = ((ew (s a) / (∑ b, ew (s b)) : ℝ) : EReal) := by
  have hsum : (∑ b, Ideal.exp (s b - m)) = (((∑ b, ew (s b)) * Real.exp (-m.toReal) : ℝ) : EReal) := by
    rw [Finset.sum_congr rfl fun b _ => exp_weight (s b) (hs b) m hm, coe_sum, Finset.sum_mul]
  rw [zero_add, hsum, exp_weight (s a) (hs a) m hm]
  refine weight_div _ _ _ (Real.exp_pos _) ?_
  have h2 : ew (s a0) ≤ ∑ b, ew (s b) := Finset.single_le_sum (f := fun b => ew (s b)) (fun b _ => ew_nonneg _ (hs b)) (Finset.mem_univ a0)
  refine lt_of_lt_of_le ?_ h2
  rw [num_of_lt h0 (hs a0), ew_coe]
  exact Real.exp_pos _

theorem num_mul_coe {x : EReal} (hx : Num x) (r : ℝ) : Num (x * (r : EReal)) := by
  rw [hx, ← EReal.coe_mul]
  exact num_coe _

theorem negInfinity : (Ideal.ofBits FTy.f32 0xFF800000#32 : EReal) = ⊥ := by
  simp [Ideal.ofBits, Ideal.ieee]

theorem eighth : (Ideal.ofBits FTy.f32 0x3E000000#32 : EReal) = ((1 / 8 : ℝ) : EReal) := by
  simp [Ideal.ofBits, Ideal.ieee, -EReal.coe_mul]; norm_num

/-- The largest score of a row is a number where one score is and none is plus infinity. -/
theorem num_reduce {s t u : Shape} {axes : List (Fin s.rank)} (x : s.Idx → EReal) (init : u.Idx → EReal) (h : s.ReducesTo axes t) (hu : 0 < u.numel) (j : t.Idx)
    (hi : init (Shape.Idx.first hu) = ⊥) (hx : ∀ i, x i < ⊤) (i : s.Idx) (hij : h.drop i = j) (h0 : ⊥ < x i) :
    Num (max ⊥ (Host.reduce (max : EReal → EReal → EReal) x init h hu j)) := by
  rw [Host.reduce_eq_fold, hi, bot_sup_eq]
  exact num_of_lt (lt_of_lt_of_le h0 (le_fold_max _ x i (Finset.mem_filter.2 ⟨Finset.mem_univ _, hij⟩))) (fold_max_lt_top _ x hx)

end Cert.Attend

end
-- ==== Proof.AttnRefDense.lean ====
/-
  The attention reference's dense heads over the extended reals: an element is `dense` of the arguments.
-/
module

public import proofs.«01_k».proof.Proof.AttnSoftmax
public import proofs.«01_k».proof.Proof.Gen.AttnRefIdeal.Read

@[expose] public section

set_option maxRecDepth 16384

noncomputable section

namespace Cert.AttnRefIdeal.Dense

open Cert.AttnRefIdeal Cert.AttnRefIdeal.Read Cert.Attend Idealize.ShloMosaic Idealize.ShloMosaic.TcCoe Idealize.SL.Sem
open scoped BigOperators

/-- The cached rows, then the sequence's. -/
def joined (c : Vec Ideal S4x256x2x64 .f32) (x : Vec Ideal S4x2048x2x64 .f32) (b : Fin 4) (n : Fin 2) (k : Fin 2304) (d : Fin 64) : EReal :=
  if h : k.val < 256 then c (ix4 b ⟨k.val, h⟩ n d) else x (ix4 b ⟨k.val - 256, by omega⟩ n d)

theorem joined_keys (x2 : Vec Ideal S4x2048x2x64 .f32) (x7 : Vec Ideal S4x256x2x64 .f32) (i : S4x2304x2x64.Idx) :
    val_main_v1 (F := Ideal) x2 x7 i = joined x7 x2 (i 0) (i 2) (i 1) (i 3) := by
  unfold val_main_v1 joined
  pointwise
theorem joined_vals (x3 : Vec Ideal S4x2048x2x64 .f32) (x8 : Vec Ideal S4x256x2x64 .f32) (i : S4x2304x2x64.Idx) :
    val_main_v2 (F := Ideal) x3 x8 i = joined x8 x3 (i 0) (i 2) (i 1) (i 3) := by
  unfold val_main_v2 joined
  pointwise

/-- The index of a query's element, its head from the group and the place in it. -/
theorem head_index (i : S4x2048x2x4x64.Idx) : idx_main_v3 i = ix4 (i 0) (i 1) ⟨4 * (i 2).val + (i 3).val, by have h2 : (i 2).val < 2 := (i 2).isLt; have h3 : (i 3).val < 4 := (i 3).isLt; omega⟩ (i 4) := by
  have h0 : (i 0).val < 4 := (i 0).isLt
  have h1 : (i 1).val < 2048 := (i 1).isLt
  have h2 : (i 2).val < 2 := (i 2).isLt
  have h3 : (i 3).val < 4 := (i 3).isLt
  have h4 : (i 4).val < 64 := (i 4).isLt
  funext a
  apply Fin.ext
  match a with
  | ⟨0, _⟩ => show (((((i 0).val * 2048 + (i 1).val) * 2 + (i 2).val) * 4 + (i 3).val) * 64 + (i 4).val) / 1048576 = (i 0).val; omega
  | ⟨1, _⟩ => show (((((i 0).val * 2048 + (i 1).val) * 2 + (i 2).val) * 4 + (i 3).val) * 64 + (i 4).val) / 512 % 2048 = (i 1).val; omega
  | ⟨2, _⟩ => show (((((i 0).val * 2048 + (i 1).val) * 2 + (i 2).val) * 4 + (i 3).val) * 64 + (i 4).val) / 64 % 8 = 4 * (i 2).val + (i 3).val; omega
  | ⟨3, _⟩ => show (((((i 0).val * 2048 + (i 1).val) * 2 + (i 2).val) * 4 + (i 3).val) * 64 + (i 4).val) % 64 = (i 4).val; omega

/-- A query's element, scaled. -/
theorem query_read (x1 : Vec Ideal S4x2048x8x64 .f32) (b : Fin 4) (p : Fin 2048) (n : Fin 2) (g : Fin 4) (d : Fin 64) :
    val_main_v5 (F := Ideal) x1 (ix5 b p n g d) = x1 (ix4 b p ⟨4 * n.val + g.val, by omega⟩ d) * ((1 / 8 : ℝ) : EReal) := by
  rw [val_main_v5_apply, val_main_v3_apply, val_main_v4_apply, val_main_cst_apply, head_index]
  show x1 _ * Ideal.ofBits FTy.f32 0x3E000000#32 = _
  rw [eighth]
  rfl

section Read

variable (x1 : Vec Ideal S4x2048x8x64 .f32) (x2 x3 : Vec Ideal S4x2048x2x64 .f32) (x7 x8 : Vec Ideal S4x256x2x64 .f32)
  (h1 : ∀ k, Num (x1 k)) (h2 : ∀ k, Num (x2 k)) (h7 : ∀ k, Num (x7 k))

include h1 h2 h7 in
/-- A score. -/
theorem score_read (i : S4x2x4x2048x2304.Idx) :
    val_main_v7 (F := Ideal) x1 x2 x7 i
      = (logit (fun d => x1 (ix4 (i 0) (i 3) ⟨4 * (i 1).val + (i 2).val, by have h2 : (i 1).val < 2 := (i 1).isLt; have h3 : (i 2).val < 4 := (i 2).isLt; omega⟩ d)) (joined x7 x2 (i 0) (i 1) (i 4)) : EReal) := by
  rw [val_main_v7_apply, val_main_v6_apply]
  unfold logit
  rw [← dot_score _ _ (fun d => num_mul_coe (h1 _) _) (fun d => by unfold joined; split; exacts [h7 _, h2 _])]
  refine Finset.sum_congr rfl fun d _ => ?_
  rw [mul_comm, joined_keys]
  refine congrArg₂ (· * ·) ?_ rfl
  refine Eq.trans (congrArg _ ?_) (query_read x1 (i 0) (i 3) (i 1) (i 2) d)
  funext a
  match a with
  | ⟨0, _⟩ => rfl
  | ⟨1, _⟩ => rfl
  | ⟨2, _⟩ => rfl
  | ⟨3, _⟩ => rfl
  | ⟨4, _⟩ => rfl

include h1 h2 h7 in
theorem max_num (b : Fin 4) (n : Fin 2) (g : Fin 4) (p : Fin 2048) : Num (val_main_v10 (F := Ideal) x1 x2 x7 (ix4 b n g p)) := by
  rw [val_main_v10_apply, val_main_v9_apply, val_main_cst_1_apply]
  unfold val_main_v8
  show Num (max (Ideal.ofBits FTy.f32 0xFF800000#32) _)
  rw [negInfinity]
  refine num_reduce _ _ _ _ _ ?_ (fun i => ?_) (ix5 b n g p 0) ?_ ?_
  · exact negInfinity
  · rw [score_read x1 x2 x7 h1 h2 h7]; exact EReal.coe_lt_top _
  · funext a
    match a with
    | ⟨0, _⟩ => rfl
    | ⟨1, _⟩ => rfl
    | ⟨2, _⟩ => rfl
    | ⟨3, _⟩ => rfl
  · rw [score_read x1 x2 x7 h1 h2 h7]; exact EReal.bot_lt_coe _

include h1 h2 h7 in
/-- A normalised weight. -/
theorem weight_read (b : Fin 4) (n : Fin 2) (g : Fin 4) (p : Fin 2048) (k : Fin 2304) :
    val_main_v18 (F := Ideal) x1 x2 x7 (ix5 b n g p k)
      = ((Real.exp (logit (fun d => x1 (ix4 b p ⟨4 * n.val + g.val, by omega⟩ d)) (joined x7 x2 b n k))
          / (∑ k : Fin 2304, Real.exp (logit (fun d => x1 (ix4 b p ⟨4 * n.val + g.val, by omega⟩ d)) (joined x7 x2 b n k))) : ℝ) : EReal) := by
  have hs : ∀ k, val_main_v7 (F := Ideal) x1 x2 x7 (ix5 b n g p k) = (logit (fun d => x1 (ix4 b p ⟨4 * n.val + g.val, by omega⟩ d)) (joined x7 x2 b n k) : EReal) :=
    fun k => score_read x1 x2 x7 h1 h2 h7 (ix5 b n g p k)
  have he : ∀ k, val_main_v14 (F := Ideal) x1 x2 x7 (ix5 b n g p k) = Ideal.exp (val_main_v7 (F := Ideal) x1 x2 x7 (ix5 b n g p k) - val_main_v10 (F := Ideal) x1 x2 x7 (ix4 b n g p)) := fun k => by
    rw [val_main_v14_apply, val_main_v13_apply, val_main_v12_apply, val_main_v11_apply]
    refine congrArg (fun z => Ideal.exp (val_main_v7 (F := Ideal) x1 x2 x7 (ix5 b n g p k) - val_main_v10 (F := Ideal) x1 x2 x7 z)) ?_
    funext a
    match a with
    | ⟨0, _⟩ => rfl
    | ⟨1, _⟩ => rfl
    | ⟨2, _⟩ => rfl
    | ⟨3, _⟩ => rfl
  have hd : val_main_v17 (F := Ideal) x1 x2 x7 (ix5 b n g p k) = 0 + ∑ k, Ideal.exp (val_main_v7 (F := Ideal) x1 x2 x7 (ix5 b n g p k) - val_main_v10 (F := Ideal) x1 x2 x7 (ix4 b n g p)) := by
    rw [val_main_v17_apply, val_main_v16_apply, val_main_v15_apply, val_main_cst_2_apply]
    refine congrArg₂ (· + ·) Ideal.ofBits_zero_f32 (Finset.sum_congr rfl fun k _ => (congrArg _ ?_).trans (he k))
    funext a
    match a with
    | ⟨0, _⟩ => rfl
    | ⟨1, _⟩ => rfl
    | ⟨2, _⟩ => rfl
    | ⟨3, _⟩ => rfl
    | ⟨4, _⟩ => rfl
  rw [val_main_v18_apply, he, hd]
  refine (softmax_weight (fun k => val_main_v7 (F := Ideal) x1 x2 x7 (ix5 b n g p k)) (fun k => by rw [hs]; exact EReal.coe_lt_top _) 0 (by rw [hs]; exact EReal.bot_lt_coe _)
    _ (max_num x1 x2 x7 h1 h2 h7 b n g p) k).trans ?_
  simp only [hs, ew_coe]

include h1 h2 h7 in
/-- A head's element. -/
theorem head_read (b : Fin 4) (p : Fin 2048) (n : Fin 2) (g : Fin 4) (d : Fin 64) :
    val_main_v20 (F := Ideal) x1 x2 x3 x7 x8 (ix5 b p n g d)
      = dense (fun d => x1 (ix4 b p ⟨4 * n.val + g.val, by omega⟩ d)) (fun j d => x7 (ix4 b j n d)) (fun j d => x2 (ix4 b j n d)) (fun j => x8 (ix4 b j n d)) (fun j => x3 (ix4 b j n d)) := by
  have hlo : ∀ (c : Vec Ideal S4x256x2x64 .f32) (x : Vec Ideal S4x2048x2x64 .f32) (j : Fin 256) (h), joined c x b n ⟨j.val, h⟩ = fun d => c (ix4 b j n d) := fun c x j h => funext fun d => by
    unfold joined
    exact dif_pos j.isLt
  have hhi : ∀ (c : Vec Ideal S4x256x2x64 .f32) (x : Vec Ideal S4x2048x2x64 .f32) (j : Fin 2048) (h), joined c x b n ⟨256 + j.val, h⟩ = fun d => x (ix4 b j n d) := fun c x j h => funext fun d => by
    unfold joined
    rw [dif_neg (by show ¬(256 + j.val < 256); omega)]
    exact congrArg (fun z => x (ix4 b z n d)) (Fin.ext (by show 256 + j.val - 256 = j.val; omega))
  have ht : ∀ k : Fin 2304, (val_main_v2 (F := Ideal) x3 x8) (lidx_main_v19 (idx_main_v20 (ix5 b p n g d)) k) * (val_main_v18 (F := Ideal) x1 x2 x7) (ridx_main_v19 (idx_main_v20 (ix5 b p n g d)) k)
      = ((Real.exp (logit (fun d => x1 (ix4 b p ⟨4 * n.val + g.val, by omega⟩ d)) (joined x7 x2 b n k))
          / (∑ k : Fin 2304, Real.exp (logit (fun d => x1 (ix4 b p ⟨4 * n.val + g.val, by omega⟩ d)) (joined x7 x2 b n k))) : ℝ) : EReal) * joined x8 x3 b n k d := fun k => by
    rw [mul_comm]
    refine congrArg₂ (· * ·) ((congrArg _ ?_).trans (weight_read x1 x2 x7 h1 h2 h7 b n g p k)) (joined_vals x3 x8 _)
    funext a
    match a with
    | ⟨0, _⟩ => rfl
    | ⟨1, _⟩ => rfl
    | ⟨2, _⟩ => rfl
    | ⟨3, _⟩ => rfl
    | ⟨4, _⟩ => rfl
  rw [val_main_v20_apply, val_main_v19_apply, Finset.sum_congr rfl fun k _ => ht k]
  simp only [Fin.sum_univ_two_halves 256 2048 (rfl : 256 + 2048 = 2304), hlo, hhi]
  unfold dense mix
  rw [add_zero]

end Read

end Cert.AttnRefIdeal.Dense

end
-- ==== Proof.AttnRefBand.lean ====
/-
  The attention reference's banded heads over the extended reals: an element is `band` of the arguments.
-/
module

public import proofs.«01_k».proof.Proof.AttnRefDense
public import proofs.«01_k».proof.Proof.AttnBlocks

@[expose] public section

set_option maxRecDepth 16384

noncomputable section

namespace Cert.AttnRefIdeal.Band

open Cert.AttnRefIdeal Cert.AttnRefIdeal.Read Cert.Attend Idealize.ShloMosaic Idealize.ShloMosaic.TcCoe Idealize.SL.Sem
open scoped BigOperators

/-- The rows near a row. -/
theorem near_read (p j : Fin 2048) : val_main_v33 (F := Ideal) (ix2 p j) = if Near p.val j.val then 1#1 else 0#1 := by
  rw [val_main_v33_apply, val_main_v31_apply, val_main_v30_apply, val_main_v28_apply, val_main_v26_apply, val_main_v25_apply,
    val_main_v29_apply, val_main_v27_apply, val_main_v25_apply, val_main_v32_apply, val_main_c_apply]
  show IntOp.cmpi CmpIPredicate.sle (IntOp.absi (BitVec.ofNat 32 p.val - BitVec.ofNat 32 j.val)) 128#32 = _
  rw [Cert.AttnIdeal.Head.word_diff _ _ (by omega) (by omega), Cert.AttnIdeal.Head.near_word ⟨p.val + (2048 - j.val), by omega⟩]
  refine if_congr ?_ rfl rfl
  unfold Near
  dsimp only
  omega

/-- A query's element, scaled. -/
theorem query_read (x4 : Vec Ideal S4x2048x8x64 .f32) (b : Fin 4) (p : Fin 2048) (n : Fin 2) (g : Fin 4) (d : Fin 64) :
    val_main_v24 (F := Ideal) x4 (ix5 b p n g d) = x4 (ix4 b p ⟨4 * n.val + g.val, by omega⟩ d) * ((1 / 8 : ℝ) : EReal) := by
  rw [val_main_v24_apply, val_main_v22_apply, val_main_v23_apply, val_main_cst_3_apply]
  show x4 _ * Ideal.ofBits FTy.f32 0x3E000000#32 = _
  rw [eighth]
  exact congrArg (fun z => x4 z * ((1 / 8 : ℝ) : EReal)) (Dense.head_index (ix5 b p n g d))

section Read

variable (x0 : Vec Ideal S8 .f32) (x4 : Vec Ideal S4x2048x8x64 .f32) (x5 x6 : Vec Ideal S4x2048x2x64 .f32) (x9 x10 : Vec Ideal S4x256x2x64 .f32)
  (h0 : ∀ k, Num (x0 k)) (h4 : ∀ k, Num (x4 k)) (h5 : ∀ k, Num (x5 k)) (h9 : ∀ k, Num (x9 k))

/-- A query. -/
def query (b : Fin 4) (p : Fin 2048) (n : Fin 2) (g : Fin 4) (d : Fin 64) : EReal := x4 (ix4 b p ⟨4 * n.val + g.val, by omega⟩ d)

/-- The scores of a row: the sequence's, those not near masked; the cached rows'; the sink. -/
def scores (b : Fin 4) (n : Fin 2) (g : Fin 4) (p : Fin 2048) (k : Fin 2305) : EReal :=
  if h : k.val < 2048 then (if Near p.val k.val then (logit (query x4 b p n g) (fun d => x5 (ix4 b ⟨k.val, h⟩ n d)) : EReal) else ⊥)
  else if h' : k.val < 2304 then (logit (query x4 b p n g) (fun d => x9 (ix4 b ⟨k.val - 2048, by omega⟩ n d)) : EReal)
  else x0 (ix1 ⟨4 * n.val + g.val, by omega⟩)

include h4 h5 in
theorem seq_score (b : Fin 4) (n : Fin 2) (g : Fin 4) (p j : Fin 2048) :
    val_main_v37 (F := Ideal) x4 x5 (ix5 b n g p j) = if Near p.val j.val then (logit (query x4 b p n g) (fun d => x5 (ix4 b j n d)) : EReal) else ⊥ := by
  rw [val_main_v37_apply, val_main_call0_v1_apply, val_main_v36_apply, val_main_call0_v2_apply, val_main_call0_v0_apply, val_main_cst_4_apply]
  have hm : idx_main_v36 (idx_main_call0_v1 (ix5 b n g p j)) = ix2 p j := by
    funext a
    match a with
    | ⟨0, _⟩ => rfl
    | ⟨1, _⟩ => rfl
  have hl : val_main_v35 (F := Ideal) x4 x5 (ix5 b n g p j) = (logit (query x4 b p n g) (fun d => x5 (ix4 b j n d)) : EReal) := by
    rw [val_main_v35_apply, val_main_v34_apply]
    unfold logit
    refine Eq.trans ?_ (dot_score (fun d => query x4 b p n g d * ((1 / 8 : ℝ) : EReal)) (fun d => x5 (ix4 b j n d)) (fun d => num_mul_coe (h4 _) _) (fun d => h5 _))
    refine Finset.sum_congr rfl fun d _ => ?_
    rw [mul_comm]
    refine congrArg₂ (· * ·) (Eq.trans (congrArg _ ?_) (query_read x4 b p n g d)) (congrArg x5 ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
  rw [hm, near_read, hl]
  show Scalar.select _ _ (Ideal.ofBits FTy.f32 0xFF800000#32 : EReal) = _
  rw [negInfinity]
  by_cases h : Near p.val j.val
  · rw [if_pos h, if_pos h]; rfl
  · rw [if_neg h, if_neg h]; rfl

include h4 h9 in
theorem cache_score (b : Fin 4) (n : Fin 2) (g : Fin 4) (p : Fin 2048) (j : Fin 256) :
    val_main_v39 (F := Ideal) x4 x9 (ix5 b n g p j) = (logit (query x4 b p n g) (fun d => x9 (ix4 b j n d)) : EReal) := by
  rw [val_main_v39_apply, val_main_v38_apply]
  unfold logit
  refine Eq.trans ?_ (dot_score (fun d => query x4 b p n g d * ((1 / 8 : ℝ) : EReal)) (fun d => x9 (ix4 b j n d)) (fun d => num_mul_coe (h4 _) _) (fun d => h9 _))
  refine Finset.sum_congr rfl fun d _ => ?_
  rw [mul_comm]
  refine congrArg₂ (· * ·) (Eq.trans (congrArg _ ?_) (query_read x4 b p n g d)) (congrArg x9 ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl

theorem sink_score (b : Fin 4) (n : Fin 2) (g : Fin 4) (p : Fin 2048) (z : Fin 1) :
    val_main_v42 (F := Ideal) x0 (ix5 b n g p z) = x0 (ix1 ⟨4 * n.val + g.val, by omega⟩) := by
  rw [val_main_v42_apply, val_main_v41_apply, val_main_v0_apply]
  refine congrArg x0 ?_
  funext a
  match a with
  | ⟨0, _⟩ => exact Fin.ext (by show n.val * 4 + g.val = 4 * n.val + g.val; omega)

include h4 h5 h9 in
theorem score_read (b : Fin 4) (n : Fin 2) (g : Fin 4) (p : Fin 2048) (k : Fin 2305) :
    val_main_v43 (F := Ideal) x0 x4 x5 x9 (ix5 b n g p k) = scores x0 x4 x5 x9 b n g p k := by
  have hv : val_main_v43 (F := Ideal) x0 x4 x5 x9 (ix5 b n g p k)
      = if h' : k.val < 2304 then (if h : k.val < 2048 then val_main_v37 (F := Ideal) x4 x5 (ix5 b n g p ⟨k.val, h⟩) else val_main_v39 (F := Ideal) x4 x9 (ix5 b n g p ⟨k.val - 2048, by omega⟩))
        else val_main_v42 (F := Ideal) x0 (ix5 b n g p ⟨k.val - 2304, by omega⟩) := by
    unfold val_main_v43 val_main_v40
    pointwise
  rw [hv]
  unfold scores
  by_cases h : k.val < 2048
  · rw [dif_pos h, dif_pos (by omega), dif_pos h, seq_score x4 x5 h4 h5]
  · by_cases h' : k.val < 2304
    · rw [dif_neg h, dif_pos h', dif_pos h', dif_neg h, cache_score x4 x9 h4 h9]
    · rw [dif_neg h, dif_neg h', dif_neg h', sink_score]

include h0 in
theorem scores_lt (b : Fin 4) (n : Fin 2) (g : Fin 4) (p : Fin 2048) (k : Fin 2305) : scores x0 x4 x5 x9 b n g p k < ⊤ := by
  unfold scores
  split
  · split
    · exact EReal.coe_lt_top _
    · exact bot_lt_top
  · split
    · exact EReal.coe_lt_top _
    · rw [h0]; exact EReal.coe_lt_top _
include h0 in
theorem scores_sink (b : Fin 4) (n : Fin 2) (g : Fin 4) (p : Fin 2048) : ⊥ < scores x0 x4 x5 x9 b n g p 2304 := by
  unfold scores
  rw [dif_neg (by decide), dif_neg (by decide), h0]
  exact EReal.bot_lt_coe _

include h0 h4 h5 h9 in
theorem max_num (b : Fin 4) (n : Fin 2) (g : Fin 4) (p : Fin 2048) : Num (val_main_v46 (F := Ideal) x0 x4 x5 x9 (ix4 b n g p)) := by
  rw [val_main_v46_apply, val_main_v45_apply, val_main_cst_6_apply]
  unfold val_main_v44
  show Num (max (Ideal.ofBits FTy.f32 0xFF800000#32) _)
  rw [negInfinity]
  refine num_reduce _ _ _ _ _ ?_ (fun i => ?_) (ix5 b n g p 2304) ?_ ?_
  · exact negInfinity
  · rw [eq_ix5 i]; exact (score_read x0 x4 x5 x9 h4 h5 h9 _ _ _ _ _).trans_lt (scores_lt x0 x4 x5 x9 h0 _ _ _ _ _)
  · funext a
    match a with
    | ⟨0, _⟩ => rfl
    | ⟨1, _⟩ => rfl
    | ⟨2, _⟩ => rfl
    | ⟨3, _⟩ => rfl
  · exact (scores_sink x0 x4 x5 x9 h0 b n g p).trans_eq (score_read x0 x4 x5 x9 h4 h5 h9 b n g p 2304).symm

include h0 h4 h5 h9 in
/-- A normalised weight. -/
theorem weight_read (b : Fin 4) (n : Fin 2) (g : Fin 4) (p : Fin 2048) (k : Fin 2305) :
    val_main_v54 (F := Ideal) x0 x4 x5 x9 (ix5 b n g p k)
      = ((ew (scores x0 x4 x5 x9 b n g p k) / (∑ k, ew (scores x0 x4 x5 x9 b n g p k)) : ℝ) : EReal) := by
  have hs : ∀ k, val_main_v43 (F := Ideal) x0 x4 x5 x9 (ix5 b n g p k) = scores x0 x4 x5 x9 b n g p k := score_read x0 x4 x5 x9 h4 h5 h9 b n g p
  have he : ∀ k, val_main_v50 (F := Ideal) x0 x4 x5 x9 (ix5 b n g p k) = Ideal.exp (scores x0 x4 x5 x9 b n g p k - val_main_v46 (F := Ideal) x0 x4 x5 x9 (ix4 b n g p)) := fun k => by
    rw [val_main_v50_apply, val_main_v49_apply, val_main_v48_apply, val_main_v47_apply]
    refine congrArg₂ (fun y z => Ideal.exp (y - val_main_v46 (F := Ideal) x0 x4 x5 x9 z)) (hs k) ?_
    funext a
    match a with
    | ⟨0, _⟩ => rfl
    | ⟨1, _⟩ => rfl
    | ⟨2, _⟩ => rfl
    | ⟨3, _⟩ => rfl
  have hd : val_main_v53 (F := Ideal) x0 x4 x5 x9 (ix5 b n g p k) = 0 + ∑ k, Ideal.exp (scores x0 x4 x5 x9 b n g p k - val_main_v46 (F := Ideal) x0 x4 x5 x9 (ix4 b n g p)) := by
    rw [val_main_v53_apply, val_main_v52_apply, val_main_v51_apply, val_main_cst_7_apply]
    refine congrArg₂ (· + ·) Ideal.ofBits_zero_f32 (Finset.sum_congr rfl fun k _ => (congrArg _ ?_).trans (he k))
    funext a
    match a with
    | ⟨0, _⟩ => rfl
    | ⟨1, _⟩ => rfl
    | ⟨2, _⟩ => rfl
    | ⟨3, _⟩ => rfl
    | ⟨4, _⟩ => rfl
  rw [val_main_v54_apply, he, hd]
  exact softmax_weight (fun k => scores x0 x4 x5 x9 b n g p k) (scores_lt x0 x4 x5 x9 h0 b n g p) 2304 (scores_sink x0 x4 x5 x9 h0 b n g p)
    _ (max_num x0 x4 x5 x9 h0 h4 h5 h9 b n g p) k

theorem ew_seq (b : Fin 4) (n : Fin 2) (g : Fin 4) (p j : Fin 2048) (h) :
    ew (scores x0 x4 x5 x9 b n g p ⟨j.val, h⟩) = if Near p.val j.val then Real.exp (logit (query x4 b p n g) (fun d => x5 (ix4 b j n d))) else 0 := by
  unfold scores
  rw [dif_pos j.isLt]
  by_cases hn : Near p.val j.val
  · rw [if_pos hn, if_pos hn, ew_coe]
  · rw [if_neg hn, if_neg hn, ew_bot]
theorem ew_cache (b : Fin 4) (n : Fin 2) (g : Fin 4) (p : Fin 2048) (j : Fin 256) (h) :
    ew (scores x0 x4 x5 x9 b n g p ⟨2048 + j.val, h⟩) = Real.exp (logit (query x4 b p n g) (fun d => x9 (ix4 b j n d))) := by
  unfold scores
  rw [dif_neg (by show ¬(2048 + j.val < 2048); omega), dif_pos (by show 2048 + j.val < 2304; omega), ew_coe]
  exact congrArg (fun z => Real.exp (logit (query x4 b p n g) fun d => x9 (ix4 b z n d))) (Fin.ext (by show 2048 + j.val - 2048 = j.val; omega))
include h0 in
theorem ew_sink (b : Fin 4) (n : Fin 2) (g : Fin 4) (p : Fin 2048) (j : Fin 1) (h) :
    ew (scores x0 x4 x5 x9 b n g p ⟨2304 + j.val, h⟩) = Real.exp (x0 (ix1 ⟨4 * n.val + g.val, by omega⟩)).toReal := by
  unfold scores
  rw [dif_neg (by show ¬(2304 + j.val < 2048); omega), dif_neg (by show ¬(2304 + j.val < 2304); omega)]
  exact (congrArg ew (h0 _)).trans (ew_coe _)

include h0 in
theorem total (b : Fin 4) (n : Fin 2) (g : Fin 4) (p : Fin 2048) :
    (∑ k, ew (scores x0 x4 x5 x9 b n g p k))
      = (∑ j : Fin 2048, if Near p.val j.val then Real.exp (logit (query x4 b p n g) (fun d => x5 (ix4 b j n d))) else 0)
        + (∑ j : Fin 256, Real.exp (logit (query x4 b p n g) (fun d => x9 (ix4 b j n d)))) + Real.exp (x0 (ix1 ⟨4 * n.val + g.val, by omega⟩)).toReal := by
  rw [Fin.sum_univ_two_halves 2304 1 (rfl : 2304 + 1 = 2305), Fin.sum_univ_two_halves 2048 256 (rfl : 2048 + 256 = 2304)]
  refine congrArg₂ (· + ·) (congrArg₂ (· + ·) ?_ ?_) ?_
  · exact Finset.sum_congr rfl fun j _ => ew_seq x0 x4 x5 x9 b n g p j _
  · exact Finset.sum_congr rfl fun j _ => ew_cache x0 x4 x5 x9 b n g p j _
  · rw [Fin.sum_univ_one]
    exact ew_sink x0 x4 x5 x9 h0 b n g p 0 _

include h0 h4 h5 h9 in
/-- A head's element. -/
theorem head_read (b : Fin 4) (p : Fin 2048) (n : Fin 2) (g : Fin 4) (d : Fin 64) :
    val_main_v62 (F := Ideal) x0 x4 x5 x6 x9 x10 (ix5 b p n g d)
      = band p.val (x0 (ix1 ⟨4 * n.val + g.val, by omega⟩)) (query x4 b p n g) (fun j d => x5 (ix4 b j n d)) (fun j d => x9 (ix4 b j n d)) (fun j => x6 (ix4 b j n d)) (fun j => x10 (ix4 b j n d)) := by
  have hT := total x0 x4 x5 x9 h0 b n g p
  rw [val_main_v62_apply, val_main_v58_apply, val_main_v57_apply, val_main_v61_apply, val_main_v60_apply]
  unfold band mix
  rw [← hT]
  refine congrArg₂ (fun y z : EReal => y + z) (Finset.sum_congr rfl fun j _ => ?_) (Finset.sum_congr rfl fun j _ => ?_)
  · rw [mul_comm, val_main_v56_apply, val_main_v55_apply]
    refine congrArg₂ (· * ·) ((congrArg _ ?_).trans (weight_read x0 x4 x5 x9 h0 h4 h5 h9 b n g p ⟨j.val, by omega⟩ |>.trans (congrArg (fun z : ℝ => ((z / (∑ k, ew (scores x0 x4 x5 x9 b n g p k)) : ℝ) : EReal)) (ew_seq x0 x4 x5 x9 b n g p j _)))) (congrArg x6 ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
  · rw [mul_comm, val_main_v59_apply, val_main_v55_apply]
    refine congrArg₂ (· * ·) ((congrArg _ ?_).trans (weight_read x0 x4 x5 x9 h0 h4 h5 h9 b n g p ⟨2048 + j.val, by omega⟩ |>.trans (congrArg (fun z : ℝ => ((z / (∑ k, ew (scores x0 x4 x5 x9 b n g p k)) : ℝ) : EReal)) (ew_cache x0 x4 x5 x9 b n g p j _)))) (congrArg x10 ?_)
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl

end Read

end Cert.AttnRefIdeal.Band

end
-- ==== Proof.AttnRefValue.lean ====
/-
  The attention reference's result over the extended reals: every element is `attention` of the arguments.
-/
module

public import proofs.«01_k».proof.Proof.AttnRefBand

@[expose] public section

set_option maxRecDepth 16384

noncomputable section

namespace Cert.AttnRefIdeal.Whole

open Cert.AttnRefIdeal Cert.AttnRefIdeal.Read Cert.Attend Idealize.ShloMosaic Idealize.ShloMosaic.TcCoe Idealize.SL.Sem
open scoped BigOperators

/-- Heads of 64 lanes in two groups of four, laid side by side. -/
theorem side_index (b : Fin 4) (p : Fin 2048) (k : Fin 512) : idx_main_v21 (ix3 b p k) = ix5 b p ⟨k.val / 256, by omega⟩ ⟨k.val / 64 % 4, Nat.mod_lt _ (by norm_num)⟩ ⟨k.val % 64, Nat.mod_lt _ (by norm_num)⟩ := by
  funext a
  apply Fin.ext
  match a with
  | ⟨0, _⟩ => show ((b.val * 2048 + p.val) * 512 + k.val) / 1048576 = b.val; omega
  | ⟨1, _⟩ => show ((b.val * 2048 + p.val) * 512 + k.val) / 512 % 2048 = p.val; omega
  | ⟨2, _⟩ => show ((b.val * 2048 + p.val) * 512 + k.val) / 256 % 2 = k.val / 256; omega
  | ⟨3, _⟩ => show ((b.val * 2048 + p.val) * 512 + k.val) / 64 % 4 = k.val / 64 % 4; omega
  | ⟨4, _⟩ => show ((b.val * 2048 + p.val) * 512 + k.val) % 64 = k.val % 64; omega

theorem row_index (b : Fin 4) (p : Fin 2048) (k : Fin 1024) : idx_main_v65 (ix2 ⟨2048 * b.val + p.val, by omega⟩ k) = ix3 b p k := by
  funext a
  apply Fin.ext
  match a with
  | ⟨0, _⟩ => show ((2048 * b.val + p.val) * 1024 + k.val) / 2097152 = b.val; omega
  | ⟨1, _⟩ => show ((2048 * b.val + p.val) * 1024 + k.val) / 1024 % 2048 = p.val; omega
  | ⟨2, _⟩ => show ((2048 * b.val + p.val) * 1024 + k.val) % 1024 = k.val; omega

section Read

variable (x0 : Vec Ideal S8 .f32) (x1 : Vec Ideal S4x2048x8x64 .f32) (x2 x3 : Vec Ideal S4x2048x2x64 .f32) (x4 : Vec Ideal S4x2048x8x64 .f32) (x5 x6 : Vec Ideal S4x2048x2x64 .f32) (x7 x8 x9 x10 : Vec Ideal S4x256x2x64 .f32)
  (h0 : ∀ k, Num (x0 k)) (h1 : ∀ k, Num (x1 k)) (h2 : ∀ k, Num (x2 k)) (h4 : ∀ k, Num (x4 k)) (h5 : ∀ k, Num (x5 k)) (h7 : ∀ k, Num (x7 k)) (h9 : ∀ k, Num (x9 k))

include h0 h1 h2 h4 h5 h7 h9 in
theorem reference_value (b : Fin 4) (p : Fin 2048) (k : Fin 1024) :
    val_main_v66 (F := Ideal) x0 x1 x2 x3 x4 x5 x6 x7 x8 x9 x10 (ix2 ⟨2048 * b.val + p.val, by omega⟩ k)
      = attention (fun h => x0 (ix1 h)) (fun b p h d => x1 (ix4 b p h d)) (fun b p h d => x2 (ix4 b p h d)) (fun b p h d => x3 (ix4 b p h d))
          (fun b p h d => x4 (ix4 b p h d)) (fun b p h d => x5 (ix4 b p h d)) (fun b p h d => x6 (ix4 b p h d))
          (fun b p h d => x7 (ix4 b p h d)) (fun b p h d => x8 (ix4 b p h d)) (fun b p h d => x9 (ix4 b p h d)) (fun b p h d => x10 (ix4 b p h d)) b p k := by
  have hv : val_main_v64 (F := Ideal) x0 x1 x2 x3 x4 x5 x6 x7 x8 x9 x10 (ix3 b p k)
      = if h : k.val < 512 then val_main_v21 (F := Ideal) x1 x2 x3 x7 x8 (ix3 b p ⟨k.val, h⟩) else val_main_v63 (F := Ideal) x0 x4 x5 x6 x9 x10 (ix3 b p ⟨k.val - 512, by omega⟩) := by
    unfold val_main_v64
    pointwise
  rw [val_main_v66_apply, val_main_v65_apply, row_index]
  refine Eq.trans (b := val_main_v64 (F := Ideal) x0 x1 x2 x3 x4 x5 x6 x7 x8 x9 x10 (ix3 b p k)) rfl ?_
  rw [hv]
  unfold attention
  by_cases h : k.val < 512
  · rw [dif_pos h, dif_pos h, val_main_v21_apply, side_index, Dense.head_read x1 x2 x3 x7 x8 h1 h2 h7]
    have e1 : (⟨4 * (k.val / 256) + k.val / 64 % 4, by omega⟩ : Fin 8) = ⟨k.val / 64, by omega⟩ := Fin.ext (by show _ + _ = _ / _; omega)
    have e2 : (⟨k.val / 256, by omega⟩ : Fin 2) = ⟨k.val / 64 / 4, by omega⟩ := Fin.ext (by show _ / _ = _ / _; omega)
    dsimp only
    rw [e1, e2]
  · rw [dif_neg h, dif_neg h, val_main_v63_apply]
    refine (congrArg (val_main_v62 (F := Ideal) x0 x4 x5 x6 x9 x10) (side_index b p ⟨k.val - 512, by omega⟩)).trans ?_
    rw [Band.head_read x0 x4 x5 x6 x9 x10 h0 h4 h5 h9]
    have e1 : (⟨4 * ((k.val - 512) / 256) + (k.val - 512) / 64 % 4, by omega⟩ : Fin 8) = ⟨k.val / 64 - 8, by omega⟩ := Fin.ext (by show _ + _ = _ / _ - _; omega)
    have e2 : (⟨(k.val - 512) / 256, by omega⟩ : Fin 2) = ⟨(k.val / 64 - 8) / 4, by omega⟩ := Fin.ext (by show _ / _ = _ / _; omega)
    have e3 : (⟨(k.val - 512) % 64, Nat.mod_lt _ (by norm_num)⟩ : Fin 64) = ⟨k.val % 64, Nat.mod_lt _ (by norm_num)⟩ := Fin.ext (by show _ % _ = _ % _; omega)
    unfold Band.query
    dsimp only
    rw [e1, e2, e3]

end Read

end Cert.AttnRefIdeal.Whole

end
-- ==== Proof.QkvSpec.lean ====
/-
  What the query, key and value projection computes, over the extended reals: rows are normalised, scaled and shifted,
  multiplied into 1536 columns, and the columns of the query and key heads normalised head by head. Also the one law the
  two programs differ by: a mean over a head taken as a product with a block-diagonal matrix.
-/
module

public import Idealize.ShloMosaic.Lib.Pipeline.ValueKit
public import Idealize.ShloMosaic.Lib.Pointwise

@[expose] public section

noncomputable section

namespace Cert.Project

open Idealize.ShloMosaic
open scoped BigOperators

/-- The constant added under the square root. -/
abbrev eps : EReal := Ideal.ofBits FTy.f32 0x358637BD#32

/-- A row normalised by its root mean square, then scaled and shifted. -/
def conditioned (x g scale shift : Fin 1024 → EReal) (k : Fin 1024) : EReal :=
  x k * Ideal.rsqrt (Ideal.div (∑ l, x l * x l) (Ideal.ofBits FTy.f32 0x44800000#32) + eps) * g k * (1 + scale k) + shift k

/-- Column `j` of the row's projection. -/
def proj (x g scale shift : Fin 1024 → EReal) (w : Fin 1024 → Fin 1536 → EReal) (j : Fin 1536) : EReal :=
  ∑ k, conditioned x g scale shift k * w k j

/-- Lane `d` of a head of 64 lanes, normalised by its root mean square. -/
def headNorm (v g : Fin 64 → EReal) (d : Fin 64) : EReal :=
  v d * Ideal.rsqrt (Ideal.div (∑ e, v e * v e) (Ideal.ofBits FTy.f32 0x42800000#32) + eps) * g d

/-- The head of 64 columns that column `j` is in. -/
def headAt (p : Fin 1536 → EReal) (j : Fin 1536) (e : Fin 64) : EReal := p ⟨64 * (j.val / 64) + e.val, by omega⟩

/-- Column `j` normalised within its head. -/
def column (p : Fin 1536 → EReal) (g : Fin 64 → EReal) (j : Fin 1536) : EReal :=
  headNorm (headAt p j) g ⟨j.val % 64, Nat.mod_lt _ (by norm_num)⟩

/-- The projection's column under column `k` of the queries. -/
def queryCol (k : Fin 1024) : Fin 1536 := ⟨if k.val < 512 then k.val else k.val + 256, by split <;> omega⟩

/-- The projection of position `p` of sequence `b`: the shift and the scale are the first two of the six modulation rows. -/
def row (x : Fin 32 → Fin 256 → Fin 1024 → EReal) (md : Fin 6144 → EReal) (g : Fin 1024 → EReal) (w : Fin 1024 → Fin 1536 → EReal) (b : Fin 32) (p : Fin 256) : Fin 1536 → EReal :=
  proj (x b p) g (fun k => md ⟨1024 + k.val, by omega⟩) (fun k => md ⟨k.val, by omega⟩) w

theorem sixtyfour : (Ideal.ofBits FTy.f32 0x42800000#32 : EReal) = ((64 : ℝ) : EReal) := by
  simp [Ideal.ofBits, Ideal.ieee, -EReal.coe_mul]; norm_num

theorem square_nonneg (x : EReal) : 0 ≤ x * x := by
  rcases le_total 0 x with h | h
  · exact EReal.mul_nonneg h h
  · exact EReal.mul_nonneg_iff.mpr (.inr ⟨h, h⟩)

/-- A common factor leaves a sum of terms that are not negative. -/
theorem sum_factor {α : Type*} (s : Finset α) (f : α → EReal) (hf : ∀ a, 0 ≤ f a) (c : EReal) : ∑ a ∈ s, f a * c = (∑ a ∈ s, f a) * c := by
  classical
  induction s using Finset.induction_on with
  | empty => simp
  | insert a s h ih => rw [Finset.sum_insert h, Finset.sum_insert h, ih, EReal.right_distrib_of_nonneg (hf a) (Finset.sum_nonneg fun b _ => hf b)]

/-- The mean of the squares of one head of four, as a product with a matrix that holds the reciprocal of 64 within a head. -/
theorem head_mean (v : Fin 256 → EReal) (c : Fin 256) (b : Fin 256 → EReal)
    (hb : ∀ l : Fin 256, b l = Ideal.div (if l.val / 64 = c.val / 64 then 1 else 0) (Ideal.ofBits FTy.f32 0x42800000#32)) :
    ∑ l, v l * v l * b l = Ideal.div (∑ e : Fin 64, v ⟨64 * (c.val / 64) + e.val, by omega⟩ * v ⟨64 * (c.val / 64) + e.val, by omega⟩) (Ideal.ofBits FTy.f32 0x42800000#32) := by
  rw [sixtyfour, Ideal.div_coe (by norm_num), ← sum_factor _ _ fun e => square_nonneg _]
  have h : ∀ l : Fin 256, v l * v l * b l = if l.val / 64 = c.val / 64 then v l * v l * ((1 / 64 : ℝ) : EReal) else 0 := fun l => by
    rw [hb, sixtyfour, Ideal.div_coe (by norm_num)]
    split <;> simp
  rw [Finset.sum_congr rfl fun l _ => h l, ← Finset.sum_filter]
  symm
  refine Finset.sum_bij (fun e _ => (⟨64 * (c.val / 64) + e.val, by omega⟩ : Fin 256)) (fun e _ => ?_) (fun e _ e' _ he => ?_) (fun l hl => ?_) (fun e _ => rfl)
  · rw [Finset.mem_filter]
    exact ⟨Finset.mem_univ _, by show (64 * (c.val / 64) + e.val) / 64 = _; omega⟩
  · have := congrArg Fin.val he
    dsimp only at this
    exact Fin.ext (by omega)
  · have hl' := (Finset.mem_filter.mp hl).2
    exact ⟨⟨l.val % 64, Nat.mod_lt _ (by norm_num)⟩, Finset.mem_univ _, Fin.ext (by show 64 * (c.val / 64) + l.val % 64 = l.val; omega)⟩

/-- A column normalised by that product is normalised within its head; `o` is where its chunk of 256 columns starts. -/
theorem column_of_chunk (p : Fin 1536 → EReal) (g : Fin 64 → EReal) (o : ℕ) (ho : 64 ∣ o) (ho' : o + 256 ≤ 1536) (c : Fin 256) (b : Fin 256 → EReal)
    (hb : ∀ l : Fin 256, b l = Ideal.div (if l.val / 64 = c.val / 64 then 1 else 0) (Ideal.ofBits FTy.f32 0x42800000#32))
    (j : Fin 1536) (hj : j.val = o + c.val) (s : EReal) (hs : s = g ⟨j.val % 64, Nat.mod_lt _ (by norm_num)⟩) :
    p ⟨o + c.val, by omega⟩ * Ideal.rsqrt (∑ l : Fin 256, p ⟨o + l.val, by omega⟩ * p ⟨o + l.val, by omega⟩ * b l + eps) * s = column p g j := by
  rw [head_mean (fun l => p ⟨o + l.val, by omega⟩) c b hb, hs]
  unfold column headNorm headAt
  have e1 : (⟨o + c.val, by omega⟩ : Fin 1536) = ⟨64 * (j.val / 64) + j.val % 64, by omega⟩ := Fin.ext (by show o + c.val = 64 * (j.val / 64) + j.val % 64; omega)
  have e2 : ∀ e : Fin 64, (⟨o + (64 * (c.val / 64) + e.val), by omega⟩ : Fin 1536) = ⟨64 * (j.val / 64) + e.val, by omega⟩ := fun e => Fin.ext (by show o + (64 * (c.val / 64) + e.val) = 64 * (j.val / 64) + e.val; omega)
  simp only [e1, e2]

end Cert.Project

end
-- ==== Proof.QkvWindow.lean ====
/-
  What the projection kernel's windows hold at a point, from the arguments: 1024 rows of four sequences, the shift and
  scale rows, the gains, the weights, the per-head gains laid over the columns, and the matrix that takes means by heads.
-/
module

public import proofs.«01_k».proof.Proof.QkvSpec
public import proofs.«01_k».proof.Proof.Gen.QkvIdeal.Value
public import Idealize.ShloMosaic.Lib.Claim
public import Idealize.ShloMosaic.Lib.Pipeline.Value

@[expose] public section

set_option maxRecDepth 16384

noncomputable section

namespace Cert.QkvIdeal.Whole

open Cert.QkvIdeal Cert.QkvIdeal.Gen Cert.Project Idealize.ShloMosaic Idealize.ShloMosaic.TcCoe Idealize.SL.Sem
open scoped BigOperators

variable (m : (ℓ : Loc nD τ sig) → Buf (Elt Ideal) ℓ)

/-- The index maps: point `t` takes block `t` of the rows and writes block `t` of every result. -/
theorem maps : ∀ t : Fin cfg0.N,
    (win0_0.index t 0 = t.val ∧ win0_0.index t 1 = 0) ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_8.index t 0 = t.val ∧ win0_8.index t 1 = 0)
    ∧ (win0_9.index t 0 = t.val ∧ win0_9.index t 1 = 0 ∧ win0_9.index t 2 = 0) ∧ (win0_10.index t 0 = t.val ∧ win0_10.index t 1 = 0 ∧ win0_10.index t 2 = 0)
    ∧ (win0_11.index t 0 = t.val ∧ win0_11.index t 1 = 0 ∧ win0_11.index t 2 = 0) ∧ (win0_12.index t 0 = t.val ∧ win0_12.index t 1 = 0 ∧ win0_12.index t 2 = 0)
    ∧ t.val < 8 :=
  (by decide +kernel : ∀ t : Fin grid0.N, _)

theorem lt8 (t : Fin cfg0.N) : t.val < 8 := (maps t).2.2.2.2.2.2.2.2.2.2.2

/-- The rows of a block. -/
theorem blk_x (c : Dev nD) (t : Fin cfg0.N) (r k : Fin 1024) (b : Fin 32) (hb : b.val = 4 * t.val + r.val / 256) (p : Fin 256) (hp : p.val = r.val % 256) :
    (iblk m c 0 t : Vec Ideal S1024x1024 .f32) (ix2 r k) = m ((c : Thread nD τ).loc main_arg0) (ix3 b p k) := by
  obtain ⟨⟨i0, i1⟩, -⟩ := maps t
  have ht := lt8 t
  unfold iblk
  rw [View.read_apply]
  show V m c main_v69 _ = _
  simp only [V, hostOps0, hostOps0_1, hostOps0_2, hostOps0_3, hostOps0_4, hostOps0_5, hostOps0_6, List.flatten_cons, List.flatten_nil, List.cons_append, List.nil_append, List.append_nil]
  entry_read
  have hi : ((cfg0.win 0).blk t).view.emb (ix2 r k) = ix2 ⟨1024 * t.val + r.val, by omega⟩ k := by
    funext a
    apply Fin.ext
    match a with
    | ⟨0, _⟩ => show win0_0.index t 0 * 1024 + 1 * r.val = 1024 * t.val + r.val; omega
    | ⟨1, _⟩ => show win0_0.index t 1 * 1024 + 1 * k.val = k.val; omega
  refine (congrArg _ hi).trans ?_
  pointwise
  have e0 : (⟨(1024 * t.val + r.val) / 256, by omega⟩ : Fin 32) = b := Fin.ext (by show _ / _ = _; omega)
  have e1 : (⟨(1024 * t.val + r.val) % 256, Nat.mod_lt _ (by norm_num)⟩ : Fin 256) = p := Fin.ext (by show _ % _ = _; omega)
  simp only [e0, e1]

/-- The shift and the scale: the first two of the six rows. -/
theorem blk_mod (c : Dev nD) (t : Fin cfg0.N) (i : Fin 8) (hi : i.val < 2) (k : Fin 1024) :
    (iblk m c 1 t : Vec Ideal S1x8x1024 .f32) (ix3 0 i k) = m ((c : Thread nD τ).loc main_arg1) (ix2 0 ⟨1024 * i.val + k.val, by omega⟩) := by
  obtain ⟨-, ⟨i0, i1, i2⟩, -⟩ := maps t
  unfold iblk
  rw [View.read_apply]
  show V m c main_v1 _ = _
  simp only [V, hostOps0, hostOps0_1, hostOps0_2, hostOps0_3, hostOps0_4, hostOps0_5, hostOps0_6, List.flatten_cons, List.flatten_nil, List.cons_append, List.nil_append, List.append_nil]
  entry_read
  have he : ((cfg0.win 1).blk t).view.emb (ix3 0 i k) = (ix3 0 i k : S8x8x1024.Idx) := by
    funext a
    apply Fin.ext
    match a with
    | ⟨0, _⟩ => show win0_1.index t 0 * 1 + 1 * 0 = 0; omega
    | ⟨1, _⟩ => show win0_1.index t 1 * 8 + 1 * i.val = i.val; omega
    | ⟨2, _⟩ => show win0_1.index t 2 * 1024 + 1 * k.val = k.val; omega
  refine (congrArg _ he).trans ?_
  change pad S8x8x1024 ![0, 0, 0] ![7, 2, 0] ![0, 0, 0] (shapeCast S1x6x1024 (m ((c : Thread nD τ).loc main_arg1)) shapeCasts_S1x6144_S1x6x1024) _ pads_S1x6x1024_S8x8x1024_070_020_000 h_S_ (ix3 0 i k) = _
  pointwise
  rw [dif_pos (by omega)]
  exact congrArg (fun z => m ((c : Thread nD τ).loc main_arg1) (ix2 0 z)) (Fin.ext (by show i.val * 1024 + k.val = 1024 * i.val + k.val; omega))

/-- The row gains. -/
theorem blk_gain (c : Dev nD) (t : Fin cfg0.N) (k : Fin 1024) :
    (iblk m c 2 t : Vec Ideal S1x1024 .f32) (ix2 0 k) = m ((c : Thread nD τ).loc main_arg2) (ix1 k) := by
  obtain ⟨-, -, ⟨i0, i1⟩, -⟩ := maps t
  unfold iblk
  rw [View.read_apply]
  show V m c main_v70 _ = _
  simp only [V, hostOps0, hostOps0_1, hostOps0_2, hostOps0_3, hostOps0_4, hostOps0_5, hostOps0_6, List.flatten_cons, List.flatten_nil, List.cons_append, List.nil_append, List.append_nil]
  entry_read
  have he : ((cfg0.win 2).blk t).view.emb (ix2 0 k) = (ix2 0 k : S1x1024.Idx) := by
    funext a
    apply Fin.ext
    match a with
    | ⟨0, _⟩ => show win0_2.index t 0 * 1 + 1 * 0 = 0; omega
    | ⟨1, _⟩ => show win0_2.index t 1 * 1024 + 1 * k.val = k.val; omega
  refine (congrArg _ he).trans ?_
  pointwise

/-- The weights. -/
theorem blk_w (c : Dev nD) (t : Fin cfg0.N) (k : Fin 1024) (j : Fin 1536) :
    (iblk m c 3 t : Vec Ideal S1024x1536 .bf16) (ix2 k j) = m ((c : Thread nD τ).loc main_arg3) (ix2 k j) := by
  obtain ⟨-, -, -, ⟨i0, i1⟩, -⟩ := maps t
  unfold iblk
  rw [View.read_apply]
  show V m c main_v71 _ = _
  simp only [V, hostOps0, hostOps0_1, hostOps0_2, hostOps0_3, hostOps0_4, hostOps0_5, hostOps0_6, List.flatten_cons, List.flatten_nil, List.cons_append, List.nil_append, List.append_nil]
  entry_read
  have he : ((cfg0.win 3).blk t).view.emb (ix2 k j) = (ix2 k j : S1024x1536.Idx) := by
    funext a
    apply Fin.ext
    match a with
    | ⟨0, _⟩ => show win0_3.index t 0 * 1024 + 1 * k.val = k.val; omega
    | ⟨1, _⟩ => show win0_3.index t 1 * 1536 + 1 * j.val = j.val; omega
  refine (congrArg _ he).trans ?_
  pointwise

theorem shift_head : ∀ l : Fin 256, IntOp.shrsi ArithUnit.host (BitVec.ofNat 32 l.val) 6#32 = BitVec.ofNat 32 (l.val / 64) := by decide +kernel

theorem same_head (l k : Fin 256) :
    (FloatOps.uitofp FTy.f32 (IntOp.cmpi CmpIPredicate.eq (IntOp.shrsi ArithUnit.host (BitVec.ofNat 32 l.val) 6#32) (IntOp.shrsi ArithUnit.host (BitVec.ofNat 32 k.val) 6#32)) : Ideal .f32)
      = (if l.val / 64 = k.val / 64 then 1 else 0 : EReal) := by
  rw [shift_head, shift_head]
  have h : (BitVec.ofNat 32 (l.val / 64) == BitVec.ofNat 32 (k.val / 64)) = decide (l.val / 64 = k.val / 64) := by
    rw [Bool.eq_iff_iff, beq_iff_eq, decide_eq_true_iff]
    refine ⟨fun e => ?_, fun e => by rw [e]⟩
    have := congrArg BitVec.toNat e
    rw [BitVec.toNat_ofNat, BitVec.toNat_ofNat] at this
    omega
  show (((BitVec.ofBool (BitVec.ofNat 32 (l.val / 64) == BitVec.ofNat 32 (k.val / 64))).toNat : ℝ) : EReal) = _
  rw [h]
  by_cases e : l.val / 64 = k.val / 64 <;> simp [e]

/-- The matrix that takes means: the reciprocal of 64 within a head, zero elsewhere. -/
theorem blk_bd (c : Dev nD) (t : Fin cfg0.N) (l k : Fin 256) :
    (iblk m c 5 t : Vec Ideal S256x256 .bf16) (ix2 l k) = Ideal.div (if l.val / 64 = k.val / 64 then 1 else 0) (Ideal.ofBits FTy.f32 0x42800000#32) := by
  obtain ⟨-, -, -, -, -, ⟨i0, i1⟩, -⟩ := maps t
  unfold iblk
  rw [View.read_apply]
  show V m c main_v28 _ = _
  simp only [V, hostOps0, hostOps0_1, hostOps0_2, hostOps0_3, hostOps0_4, hostOps0_5, hostOps0_6, List.flatten_cons, List.flatten_nil, List.cons_append, List.nil_append, List.append_nil]
  entry_read
  have he : ((cfg0.win 5).blk t).view.emb (ix2 l k) = (ix2 l k : S256x256.Idx) := by
    funext a
    apply Fin.ext
    match a with
    | ⟨0, _⟩ => show win0_5.index t 0 * 256 + 1 * l.val = l.val; omega
    | ⟨1, _⟩ => show win0_5.index t 1 * 256 + 1 * k.val = k.val; omega
  refine (congrArg _ he).trans ?_
  pointwise
  rw [same_head]

end Cert.QkvIdeal.Whole

end
-- ==== Proof.QkvHgain.lean ====
/-
  The per-head gains as the projection kernel reads them: each repeated over its heads, laid side by side over the columns.
-/
module

public import proofs.«01_k».proof.Proof.QkvWindow
public import Idealize.ShloMosaic.Lib.StableHlo.RunRead

@[expose] public section

set_option maxRecDepth 16384

noncomputable section

namespace Cert.QkvIdeal.Whole

open Cert.QkvIdeal Cert.QkvIdeal.Gen Cert.Project Idealize.ShloMosaic Idealize.ShloMosaic.TcCoe Idealize.SL.Sem
open scoped BigOperators

variable (m : (ℓ : Loc nD τ sig) → Buf (Elt Ideal) ℓ)

/-- A per-head gain over eight heads. -/
def overEight (g : Vec Ideal S64 .f32) : Vec Ideal S512 .f32 :=
  shapeCast S512 (broadcastInDim S8x64 ![0, 1] bcast_S1x64_S8x64_0_1 (shapeCast S1x64 g shapeCasts_S64_S1x64)) shapeCasts_S8x64_S512

/-- A per-head gain over two heads. -/
def overTwo (g : Vec Ideal S64 .f32) : Vec Ideal S128 .f32 :=
  shapeCast S128 (broadcastInDim S2x64 ![0, 1] bcast_S1x64_S2x64_0_1 (shapeCast S1x64 g shapeCasts_S64_S1x64)) shapeCasts_S2x64_S128

/-- Ones, under the values' columns. -/
def ones : Vec Ideal S128 .f32 := broadcastInDim S128 ![] bcast_S_S128 (constant (F := Ideal) S_ .f32 0x3F800000#32)

/-- The host lays six pieces side by side: the gains of the four normalised parts, and ones under the values. -/
theorem gains_laid (c : Dev nD) : V m c main_v16 = shapeCast S1x1536 (concatenate S1536 0
    [⟨S512, overEight (m ((c : Thread nD τ).loc main_arg4))⟩, ⟨S128, overTwo (m ((c : Thread nD τ).loc main_arg5))⟩,
      ⟨S128, ones⟩,
      ⟨S512, overEight (m ((c : Thread nD τ).loc main_arg6))⟩, ⟨S128, overTwo (m ((c : Thread nD τ).loc main_arg7))⟩,
      ⟨S128, ones⟩] concatenates_S512_S128_S128_S512_S128_S128_S1536_d0) shapeCasts_S1536_S1x1536 := by
  let ops : List (HloOp τ sig (Elt Ideal)) := List.flatten [hostOps0, hostOps0_1, hostOps0_2, hostOps0_3, hostOps0_4, hostOps0_5, hostOps0_6]
  let σ : Valuation τ sig (Elt Ideal) := fun b => m (c, b)
  have e0 : StableHlo.upto ops σ 19 (Proc.devRef .tc main_v5) = overEight (m ((c : Thread nD τ).loc main_arg4)) := by
    dsimp only [ops]; after_reads_simp; rfl
  have e1 : StableHlo.upto ops σ 19 (Proc.devRef .tc main_v8) = overTwo (m ((c : Thread nD τ).loc main_arg5)) := by
    dsimp only [ops]; after_reads_simp; rfl
  have e2 : StableHlo.upto ops σ 19 (Proc.devRef .tc main_v2) = ones := by
    dsimp only [ops]; after_reads_simp; rfl
  have e3 : StableHlo.upto ops σ 19 (Proc.devRef .tc main_v11) = overEight (m ((c : Thread nD τ).loc main_arg6)) := by
    dsimp only [ops]; after_reads_simp; rfl
  have e4 : StableHlo.upto ops σ 19 (Proc.devRef .tc main_v14) = overTwo (m ((c : Thread nD τ).loc main_arg7)) := by
    dsimp only [ops]; after_reads_simp; rfl
  rw [← e0, ← e1, ← e2, ← e3, ← e4]
  show StableHlo.after (List.flatten [hostOps0, hostOps0_1, hostOps0_2, hostOps0_3, hostOps0_4, hostOps0_5, hostOps0_6]) (fun b => m (c, b)) (Proc.devRef .tc main_v16) = _
  after_reads_simp
  rfl

theorem overEight_apply (g : Vec Ideal S64 .f32) (j : Fin 512) : overEight g (ix1 j) = g (ix1 ⟨j.val % 64, Nat.mod_lt _ (by norm_num)⟩) := by
  unfold overEight
  pointwise

theorem overTwo_apply (g : Vec Ideal S64 .f32) (j : Fin 128) : overTwo g (ix1 j) = g (ix1 ⟨j.val % 64, Nat.mod_lt _ (by norm_num)⟩) := by
  unfold overTwo
  pointwise

/-- The gain of a column: by its place in its head, and by which heads those are. -/
theorem blk_hgain (c : Dev nD) (t : Fin cfg0.N) (j : Fin 1536) (g : Fin 64 → EReal)
    (hg : (j.val < 512 ∧ g = fun d => m ((c : Thread nD τ).loc main_arg4) (ix1 d)) ∨ (512 ≤ j.val ∧ j.val < 640 ∧ g = fun d => m ((c : Thread nD τ).loc main_arg5) (ix1 d))
      ∨ (768 ≤ j.val ∧ j.val < 1280 ∧ g = fun d => m ((c : Thread nD τ).loc main_arg6) (ix1 d)) ∨ (1280 ≤ j.val ∧ j.val < 1408 ∧ g = fun d => m ((c : Thread nD τ).loc main_arg7) (ix1 d))) :
    (iblk m c 4 t : Vec Ideal S1x1536 .f32) (ix2 0 j) = g ⟨j.val % 64, Nat.mod_lt _ (by norm_num)⟩ := by
  obtain ⟨-, -, -, -, ⟨i0, i1⟩, -⟩ := maps t
  unfold iblk
  rw [View.read_apply]
  show V m c main_v16 _ = _
  rw [gains_laid]
  have he : ((cfg0.win 4).blk t).view.emb (ix2 0 j) = (ix2 0 j : S1x1536.Idx) := by
    funext a
    apply Fin.ext
    match a with
    | ⟨0, _⟩ => show win0_4.index t 0 * 1 + 1 * 0 = 0; omega
    | ⟨1, _⟩ => show win0_4.index t 1 * 1536 + 1 * j.val = j.val; omega
  refine (congrArg _ he).trans ?_
  pointwise
  rcases hg with ⟨h1, rfl⟩ | ⟨h1, h2, rfl⟩ | ⟨h1, h2, rfl⟩ | ⟨h1, h2, rfl⟩
  · rw [dif_pos h1, overEight_apply]
  · rw [dif_neg (by omega), dif_pos (by omega), overTwo_apply]
    exact congrArg (fun z => m ((c : Thread nD τ).loc main_arg5) (ix1 z)) (Fin.ext (by show (j.val - 512) % 64 = j.val % 64; omega))
  · rw [dif_neg (by omega), dif_neg (by omega), dif_neg (by omega), dif_pos (by omega), overEight_apply]
    exact congrArg (fun z => m ((c : Thread nD τ).loc main_arg6) (ix1 z)) (Fin.ext (by show (j.val - 512 - 128 - 128) % 64 = j.val % 64; omega))
  · rw [dif_neg (by omega), dif_neg (by omega), dif_neg (by omega), dif_neg (by omega), dif_pos (by omega), overTwo_apply]
    exact congrArg (fun z => m ((c : Thread nD τ).loc main_arg7) (ix1 z)) (Fin.ext (by show (j.val - 512 - 128 - 128 - 512) % 64 = j.val % 64; omega))

end Cert.QkvIdeal.Whole

end
-- ==== Proof.QkvPoint.lean ====
/-
  What one grid point of the projection kernel stores, at every element: columns of the projection of its rows,
  normalised head by head where they are queries or keys.
-/
module

public import proofs.«01_k».proof.Proof.QkvHgain

@[expose] public section

set_option maxRecDepth 16384

noncomputable section

namespace Cert.QkvIdeal.Whole

open Cert.QkvIdeal Cert.QkvIdeal.Gen Cert.Project Idealize.ShloMosaic Idealize.ShloMosaic.TcCoe Idealize.SL.Sem
open scoped BigOperators

theorem idx2_eq {a b : ℕ} (x : Shape.Idx ⟨2, ![a, b]⟩) : x = ix2 (x 0) (x 1) := by
  funext i
  match i with
  | ⟨0, _⟩ => rfl
  | ⟨1, _⟩ => rfl

section Block

variable (x0 : Vec Ideal S1024x1024 .f32) (x1 : Vec Ideal S1x8x1024 .f32) (x2 : Vec Ideal S1x1024 .f32) (x3 : Vec Ideal S1024x1536 .bf16)
  (x4 : Vec Ideal S1x1536 .f32) (x5 : Vec Ideal S256x256 .bf16) (x6 x7 : Vec Ideal S1024x256 .f32)

/-- The projection of a block's row. -/
def blockRow (r : Fin 1024) (j : Fin 1536) : EReal :=
  proj (fun k => x0 (ix2 r k)) (fun k => x2 (ix2 0 k)) (fun k => x1 (ix3 0 1 k)) (fun k => x1 (ix3 0 0 k)) (fun k j => x3 (ix2 k j)) j

theorem ld_row (i : Fin 8) (inb) (k : Fin 1024) : View.ld x1 (Rect.unit (s := S1x8x1024) ![0, i.val, 0] S1x1x1024.size inb) (ix3 0 0 k) = x1 (ix3 0 i k) :=
  View.ld_unit_apply_of x1 _ _ _ (ix3 0 0 k) _ (fun (a : Fin 3) => by match a with | 0 => rfl | 1 => rfl | 2 => exact (Nat.zero_add _).symm)

theorem ld_gain (o : ℕ) (ho : o + 256 ≤ 1536) (inb) (k : Fin 256) : View.ld x4 (Rect.unit (s := S1x1536) ![0, o] S1x256.size inb) (ix2 0 k) = x4 (ix2 0 ⟨o + k.val, by omega⟩) :=
  View.ld_unit_apply_of x4 _ _ _ (ix2 0 k) _ (fun (a : Fin 2) => by match a with | 0 => rfl | 1 => rfl)

theorem ld_mean (inb) : View.ld x5 (Rect.unit (s := S256x256) ![0, 0] S256x256.size inb) = x5 := by
  funext y
  exact View.ld_unit_apply_of x5 _ _ _ y _ (fun (a : Fin 2) => by match a with | 0 => exact (Nat.zero_add _).symm | 1 => exact (Nat.zero_add _).symm)

theorem pay34_apply (r : Fin 1024) (j : Fin 1536) : k0_pay34 x0 x1 x2 x3 x4 x5 x6 x7 (ix2 r j) = blockRow x0 x1 x2 x3 r j := by
  unfold k0_pay34 k0_pay3
  have h0 : ∀ k, View.ld x0 r0_0 (ix2 r k) = x0 (ix2 r k) := fun k =>
    View.ld_unit_apply_of x0 _ _ _ (ix2 r k) _ (fun (a : Fin 2) => by match a with | 0 => exact (Nat.zero_add _).symm | 1 => exact (Nat.zero_add _).symm)
  have h2 : ∀ k, View.ld x2 r0_1 (ix2 0 k) = x2 (ix2 0 k) := fun k =>
    View.ld_unit_apply_of x2 _ _ _ (ix2 0 k) _ (fun (a : Fin 2) => by match a with | 0 => rfl | 1 => exact (Nat.zero_add _).symm)
  have h3 : ∀ k, View.ld x3 r0_4 (ix2 k j) = x3 (ix2 k j) := fun k =>
    View.ld_unit_apply_of x3 _ _ _ (ix2 k j) _ (fun (a : Fin 2) => by match a with | 0 => exact (Nat.zero_add _).symm | 1 => exact (Nat.zero_add _).symm)
  have hs := ld_row x1 0 inb_S1x8x1024_S1x1x1024_0_0_0
  have hc := ld_row x1 1 inb_S1x8x1024_S1x1x1024_0_1_0
  unfold blockRow proj conditioned
  generalize View.ld x0 r0_0 = y0 at h0 ⊢
  generalize View.ld x2 r0_1 = y2 at h2 ⊢
  generalize View.ld x3 r0_4 = y3 at h3 ⊢
  change ∀ k, View.ld x1 r0_2 (ix3 0 0 k) = x1 (ix3 0 0 k) at hs
  change ∀ k, View.ld x1 r0_3 (ix3 0 0 k) = x1 (ix3 0 1 k) at hc
  generalize View.ld x1 r0_2 = y1 at hs ⊢
  generalize View.ld x1 r0_3 = y1' at hc ⊢
  pointwise
  simp only [h0, h2, h3, hs, hc]

variable (hx5 : ∀ l k : Fin 256, x5 (ix2 l k) = Ideal.div (if l.val / 64 = k.val / 64 then 1 else 0) (Ideal.ofBits FTy.f32 0x42800000#32))

include hx5 in
/-- A chunk of 256 columns, normalised head by head. -/
theorem chunk (o : ℕ) (hd : 64 ∣ o) (ho : o + 256 ≤ 1536) (inb) (r : Fin 1024) (k : Fin 256) (j : Fin 1536) (hj : j.val = o + k.val)
    (g : Fin 64 → EReal) (hg : x4 (ix2 0 j) = g ⟨j.val % 64, Nat.mod_lt _ (by norm_num)⟩) (P : FVec Ideal S1024x1536 .f32) (hP : ∀ j, P (ix2 r j) = blockRow x0 x1 x2 x3 r j) :
    P (ix2 r ⟨o + k.val, by omega⟩) * Ideal.rsqrt (∑ l : Fin 256, P (ix2 r ⟨o + l.val, by omega⟩) * P (ix2 r ⟨o + l.val, by omega⟩) * (k0_pay35 x0 x1 x2 x3 x4 x5 x6 x7) (ix2 l k) + eps)
        * View.ld x4 (Rect.unit (s := S1x1536) ![0, o] S1x256.size inb) (ix2 0 k)
      = column (blockRow x0 x1 x2 x3 r) g j := by
  have e5 : k0_pay35 x0 x1 x2 x3 x4 x5 x6 x7 = x5 := by
    unfold k0_pay35 k0_pay4
    rw [shapeCast_self]
    exact ld_mean x5 _
  rw [e5, ld_gain x4 o ho]
  have ej : (⟨o + k.val, by omega⟩ : Fin 1536) = j := Fin.ext hj.symm
  simp only [hP]
  refine column_of_chunk _ g o hd ho k (fun l => x5 (ix2 l k)) (fun l => hx5 l k) j hj _ ?_
  rw [ej]
  exact hg

/-! ## One chunk's payload at an element -/

/-- A chunk's element: the column, the reciprocal root of its head's mean square as a product, and the gain. -/
def chunkVal (P : FVec Ideal S1024x1536 .f32) (b : FVec Ideal S256x256 .bf16) (s : Vec Ideal S1x256 .f32) (o : ℕ) (ho : o + 256 ≤ 1536) (r : Fin 1024) (k : Fin 256) : EReal :=
  P (ix2 r ⟨o + k.val, by omega⟩) * Ideal.rsqrt (∑ l : Fin 256, P (ix2 r ⟨o + l.val, by omega⟩) * P (ix2 r ⟨o + l.val, by omega⟩) * b (ix2 l k) + eps) * s (ix2 0 k)

theorem pay8_apply (v0 : Vec Ideal S1024x1024 .f32) (v2 : Vec Ideal S1x1024 .f32) (v4 v6 : Vec Ideal S1x1x1024 .f32) (v27 : Vec Ideal S1024x1536 .bf16)
    (b : FVec Ideal S256x256 .bf16) (s : Vec Ideal S1x256 .f32) (r : Fin 1024) (k : Fin 256) :
    k0_pay8 b (k0_pay5 v0 v2 v4 v6 v27) (k0_pay6 s) (k0_pay7 v0 v2 v4 v6 v27) (constant S1024x256 .f32 0x00000000#32) (ix2 r k)
      = chunkVal (k0_pay3 v0 v2 v4 v6 v27) b s 0 (by norm_num) r k := by
  unfold k0_pay8 k0_pay7 k0_pay6 k0_pay5 chunkVal
  generalize k0_pay3 v0 v2 v4 v6 v27 = P
  pointwise
theorem pay9_apply (P : FVec Ideal S1024x1536 .f32) (b : FVec Ideal S256x256 .bf16) (s : Vec Ideal S1x256 .f32) (r : Fin 1024) (k : Fin 256) :
    k0_pay9 P b s (ix2 r k) = chunkVal P b s 256 (by norm_num) r k := by
  unfold k0_pay9 chunkVal
  pointwise
theorem pay10_apply (P : FVec Ideal S1024x1536 .f32) (b : FVec Ideal S256x256 .bf16) (s : Vec Ideal S1x256 .f32) (r : Fin 1024) (k : Fin 256) :
    k0_pay10 P b s (ix2 r k) = chunkVal P b s 768 (by norm_num) r k := by
  unfold k0_pay10 chunkVal
  pointwise
theorem pay13_apply (P : FVec Ideal S1024x1536 .f32) (b : FVec Ideal S256x256 .bf16) (s : Vec Ideal S1x256 .f32) (r : Fin 1024) (k : Fin 256) :
    k0_pay13 b (k0_pay11 P) (k0_pay12 s) (ix2 r k) = chunkVal P b s 1024 (by norm_num) r k := by
  unfold k0_pay13 k0_pay12 k0_pay11 chunkVal
  pointwise
theorem pay14_apply (P : FVec Ideal S1024x1536 .f32) (b : FVec Ideal S256x256 .bf16) (s : Vec Ideal S1x256 .f32) (r : Fin 1024) (k : Fin 128) :
    k0_pay14 P b s (ix2 r k) = chunkVal P b s 512 (by norm_num) r ⟨k.val, by omega⟩ := by
  unfold k0_pay14 chunkVal
  pointwise
theorem pay16_apply (P : FVec Ideal S1024x1536 .f32) (b : FVec Ideal S256x256 .bf16) (s : Vec Ideal S1x256 .f32) (r : Fin 1024) (k : Fin 128) :
    k0_pay16 P b s (ix2 r k) = chunkVal P b s 1280 (by norm_num) r ⟨k.val, by omega⟩ := by
  unfold k0_pay16 chunkVal
  pointwise

/-! ## The five results of a point -/

include hx5 in
theorem chunkVal_eq (o : ℕ) (hd : 64 ∣ o) (ho : o + 256 ≤ 1536) (inb) (r : Fin 1024) (k : Fin 256) (j : Fin 1536) (hj : j.val = o + k.val)
    (g : Fin 64 → EReal) (hg : x4 (ix2 0 j) = g ⟨j.val % 64, Nat.mod_lt _ (by norm_num)⟩) :
    chunkVal (k0_pay34 x0 x1 x2 x3 x4 x5 x6 x7) (k0_pay35 x0 x1 x2 x3 x4 x5 x6 x7) (View.ld x4 (Rect.unit (s := S1x1536) ![0, o] S1x256.size inb)) o ho r k
      = column (blockRow x0 x1 x2 x3 r) g j :=
  chunk x0 x1 x2 x3 x4 x5 x6 x7 hx5 o hd ho inb r k j hj g hg _ (fun j => pay34_apply x0 x1 x2 x3 x4 x5 x6 x7 r j)

include hx5 in
theorem out_queries (g : Fin 1024 → Fin 64 → EReal) (hg : ∀ k : Fin 1024, x4 (ix2 0 (queryCol k)) = g k ⟨(queryCol k).val % 64, Nat.mod_lt _ (by norm_num)⟩) :
    out0_8 x0 x1 x2 x3 x4 x5 x6 x7 = fun y => column (blockRow x0 x1 x2 x3 (y 0)) (g (y 1)) (queryCol (y 1)) := by
  have piece : ∀ (o q : ℕ) (hd : 64 ∣ o) (ho : o + 256 ≤ 1536) (inb) (hoq : (q < 512 ∧ o = q ∧ q + 256 ≤ 512) ∨ (512 ≤ q ∧ o = q + 256)) (r : Fin 1024) (l : Fin 256) (y : S1024x1024.Idx)
      (h0 : (y 0).val = r.val) (h1 : (y 1).val = q + l.val),
      chunkVal (k0_pay34 x0 x1 x2 x3 x4 x5 x6 x7) (k0_pay35 x0 x1 x2 x3 x4 x5 x6 x7) (View.ld x4 (Rect.unit (s := S1x1536) ![0, o] S1x256.size inb)) o ho r l
        = column (blockRow x0 x1 x2 x3 (y 0)) (g (y 1)) (queryCol (y 1)) := fun o q hd ho inb hoq r l y h0 h1 => by
    have e0 : y 0 = r := Fin.ext h0
    rw [e0]
    refine chunkVal_eq x0 x1 x2 x3 x4 x5 x6 x7 hx5 o hd ho inb r l _ ?_ _ (hg _)
    show (if (y 1).val < 512 then (y 1).val else (y 1).val + 256) = o + l.val
    split <;> omega
  funext y
  unfold out0_8
  canon_tiles x h using View.cover_of_tiledBy _ ![1024, 256] (by sl_kernel_rfl) _
  case piece0 =>
    obtain ⟨r, l, rfl⟩ : ∃ (r : Fin 1024) (l : Fin 256), x = ix2 r l := ⟨x 0, x 1, idx2_eq x⟩
    refine (pay13_apply _ _ _ r l).trans ?_
    exact piece 1024 768 (by norm_num) _ _ (by omega) r l y h0 h1
  case piece1 =>
    obtain ⟨r, l, rfl⟩ : ∃ (r : Fin 1024) (l : Fin 256), x = ix2 r l := ⟨x 0, x 1, idx2_eq x⟩
    refine (pay10_apply _ _ _ r l).trans ?_
    exact piece 768 512 (by norm_num) _ _ (by omega) r l y h0 h1
  case piece2 =>
    obtain ⟨r, l, rfl⟩ : ∃ (r : Fin 1024) (l : Fin 256), x = ix2 r l := ⟨x 0, x 1, idx2_eq x⟩
    refine (pay9_apply _ _ _ r l).trans ?_
    exact piece 256 256 (by norm_num) _ _ (by omega) r l y h0 h1
  case piece3 =>
    obtain ⟨r, l, rfl⟩ : ∃ (r : Fin 1024) (l : Fin 256), x = ix2 r l := ⟨x 0, x 1, idx2_eq x⟩
    refine (pay8_apply _ _ _ _ _ _ _ r l).trans ?_
    exact piece 0 0 (by norm_num) _ _ (by omega) r l y h0 (h1.trans (Nat.zero_add _).symm)

include hx5 in
theorem out_keys_a (y0 : Fin 4) (y1 : Fin 128) (y2 : Fin 256) (g : Fin 64 → EReal) (hg : x4 (ix2 0 ⟨512 + y1.val, by omega⟩) = g ⟨(512 + y1.val) % 64, Nat.mod_lt _ (by norm_num)⟩) :
    out0_9 x0 x1 x2 x3 x4 x5 x6 x7 (ix3 y0 y1 y2) = column (blockRow x0 x1 x2 x3 ⟨256 * y0.val + y2.val, by omega⟩) g ⟨512 + y1.val, by omega⟩ := by
  unfold out0_9
  refine (Value.canon9_eq (View.ld x0 r0_0) (View.ld x2 r0_1) (View.ld x1 r0_2) (View.ld x1 r0_3) (View.ld x3 r0_4) (View.ld x5 r0_5) (View.ld x4 r0_14) _).trans ?_
  refine Eq.trans ?_ ((pay14_apply (k0_pay34 x0 x1 x2 x3 x4 x5 x6 x7) (k0_pay35 x0 x1 x2 x3 x4 x5 x6 x7) (View.ld x4 r0_14) ⟨256 * y0.val + y2.val, by omega⟩ y1).trans
    (chunkVal_eq x0 x1 x2 x3 x4 x5 x6 x7 hx5 512 (by norm_num) _ _ _ _ _ rfl _ hg))
  refine congrArg (k0_pay14 _ _ _) ?_
  funext a
  apply Fin.ext
  match a with
  | ⟨0, _⟩ => show y0.val * 256 + y2.val = 256 * y0.val + y2.val; omega
  | ⟨1, _⟩ => rfl

include hx5 in
theorem out_keys_b (y0 : Fin 4) (y1 : Fin 128) (y2 : Fin 256) (g : Fin 64 → EReal) (hg : x4 (ix2 0 ⟨1280 + y1.val, by omega⟩) = g ⟨(1280 + y1.val) % 64, Nat.mod_lt _ (by norm_num)⟩) :
    out0_11 x0 x1 x2 x3 x4 x5 x6 x7 (ix3 y0 y1 y2) = column (blockRow x0 x1 x2 x3 ⟨256 * y0.val + y2.val, by omega⟩) g ⟨1280 + y1.val, by omega⟩ := by
  unfold out0_11
  refine (Value.canon11_eq (View.ld x0 r0_0) (View.ld x2 r0_1) (View.ld x1 r0_2) (View.ld x1 r0_3) (View.ld x3 r0_4) (View.ld x5 r0_5) (View.ld x4 r0_15) _).trans ?_
  refine Eq.trans ?_ ((pay16_apply (k0_pay34 x0 x1 x2 x3 x4 x5 x6 x7) (k0_pay35 x0 x1 x2 x3 x4 x5 x6 x7) (View.ld x4 r0_15) ⟨256 * y0.val + y2.val, by omega⟩ y1).trans
    (chunkVal_eq x0 x1 x2 x3 x4 x5 x6 x7 hx5 1280 (by norm_num) _ _ _ _ _ rfl _ hg))
  refine congrArg (k0_pay16 _ _ _) ?_
  funext a
  apply Fin.ext
  match a with
  | ⟨0, _⟩ => show y0.val * 256 + y2.val = 256 * y0.val + y2.val; omega
  | ⟨1, _⟩ => rfl

theorem out_values_a (y0 : Fin 4) (y1 : Fin 128) (y2 : Fin 256) :
    out0_10 x0 x1 x2 x3 x4 x5 x6 x7 (ix3 y0 y1 y2) = blockRow x0 x1 x2 x3 ⟨256 * y0.val + y2.val, by omega⟩ ⟨640 + y1.val, by omega⟩ := by
  unfold out0_10
  refine (Value.canon10_eq (View.ld x0 r0_0) (View.ld x2 r0_1) (View.ld x1 r0_2) (View.ld x1 r0_3) (View.ld x3 r0_4) _).trans ?_
  refine Eq.trans ?_ (pay34_apply x0 x1 x2 x3 x4 x5 x6 x7 _ _)
  refine congrArg (k0_pay34 x0 x1 x2 x3 x4 x5 x6 x7) ?_
  funext a
  apply Fin.ext
  match a with
  | ⟨0, _⟩ => show y0.val * 256 + y2.val = 256 * y0.val + y2.val; omega
  | ⟨1, _⟩ => show y1.val + 640 = 640 + y1.val; omega

theorem out_values_b (y0 : Fin 4) (y1 : Fin 128) (y2 : Fin 256) :
    out0_12 x0 x1 x2 x3 x4 x5 x6 x7 (ix3 y0 y1 y2) = blockRow x0 x1 x2 x3 ⟨256 * y0.val + y2.val, by omega⟩ ⟨1408 + y1.val, by omega⟩ := by
  unfold out0_12
  refine (Value.canon12_eq (View.ld x0 r0_0) (View.ld x2 r0_1) (View.ld x1 r0_2) (View.ld x1 r0_3) (View.ld x3 r0_4) _).trans ?_
  refine Eq.trans ?_ (pay34_apply x0 x1 x2 x3 x4 x5 x6 x7 _ _)
  refine congrArg (k0_pay34 x0 x1 x2 x3 x4 x5 x6 x7) ?_
  funext a
  apply Fin.ext
  match a with
  | ⟨0, _⟩ => show y0.val * 256 + y2.val = 256 * y0.val + y2.val; omega
  | ⟨1, _⟩ => show y1.val + 1408 = 1408 + y1.val; omega

end Block

end Cert.QkvIdeal.Whole

end
-- ==== Proof.QkvValue.lean ====
/-
  The projection kernel's five results over the extended reals: queries and keys normalised head by head, and values.
-/
module

public import proofs.«01_k».proof.Proof.QkvPoint

@[expose] public section

set_option maxRecDepth 16384

noncomputable section

namespace Cert.QkvIdeal.Whole

open Cert.QkvIdeal Cert.QkvIdeal.Gen Cert.Project Idealize.ShloMosaic Idealize.ShloMosaic.TcCoe Idealize.SL.Sem
open scoped BigOperators

variable (m : (ℓ : Loc nD τ sig) → Buf (Elt Ideal) ℓ)

/-- A position's projection, from the arguments. -/
def rowOf (c : Dev nD) (b : Fin 32) (p : Fin 256) : Fin 1536 → EReal :=
  row (fun b p k => m ((c : Thread nD τ).loc main_arg0) (ix3 b p k)) (fun i => m ((c : Thread nD τ).loc main_arg1) (ix2 0 i))
    (fun k => m ((c : Thread nD τ).loc main_arg2) (ix1 k)) (fun k j => m ((c : Thread nD τ).loc main_arg3) (ix2 k j)) b p

theorem block_row (c : Dev nD) (t : Fin cfg0.N) (r : Fin 1024) (b : Fin 32) (hb : b.val = 4 * t.val + r.val / 256) (p : Fin 256) (hp : p.val = r.val % 256) :
    blockRow (iblk m c 0 t) (iblk m c 1 t) (iblk m c 2 t) (iblk m c 3 t) r = rowOf m c b p := by
  funext j
  unfold blockRow rowOf row
  have e0 := funext fun k => blk_x m c t r k b hb p hp
  have e1 : (fun k => (iblk m c 1 t : Vec Ideal S1x8x1024 .f32) (ix3 0 1 k)) = fun k : Fin 1024 => m ((c : Thread nD τ).loc main_arg1) (ix2 0 ⟨1024 + k.val, by omega⟩) :=
    funext fun k => blk_mod m c t 1 (by decide) k
  have e2 : (fun k => (iblk m c 1 t : Vec Ideal S1x8x1024 .f32) (ix3 0 0 k)) = fun k : Fin 1024 => m ((c : Thread nD τ).loc main_arg1) (ix2 0 ⟨k.val, by omega⟩) :=
    funext fun k => (blk_mod m c t 0 (by decide) k).trans (congrArg (fun z => m ((c : Thread nD τ).loc main_arg1) (ix2 0 z)) (Fin.ext (by show 1024 * 0 + k.val = k.val; omega)))
  have e3 := funext fun k => blk_gain m c t k
  have e4 := funext fun k => funext fun j => blk_w m c t k j
  rw [e0, e1, e2, e3, e4]

/-- The gain under a column of the queries. -/
def queryGain (c : Dev nD) (k : Fin 1024) : Fin 64 → EReal :=
  if k.val < 512 then fun d => m ((c : Thread nD τ).loc main_arg4) (ix1 d) else fun d => m ((c : Thread nD τ).loc main_arg6) (ix1 d)

/-- The queries. -/
theorem queries (c : Dev nD) (n : Fin 8192) (k : Fin 1024) :
    ((dats m 0 c).arrAt 8 cfg0.N : Vec Ideal S8192x1024 .bf16) (ix2 n k)
      = column (rowOf m c ⟨n.val / 256, by omega⟩ ⟨n.val % 256, Nat.mod_lt _ (by norm_num)⟩) (queryGain m c k) (queryCol k) := by
  let t : Fin cfg0.N := ⟨n.val / 1024, by show _ < 8; omega⟩
  have htv : t.val = n.val / 1024 := rfl
  let r : Fin 1024 := ⟨n.val % 1024, Nat.mod_lt _ (by norm_num)⟩
  have hrv : r.val = n.val % 1024 := rfl
  obtain ⟨-, -, -, -, -, -, ⟨i0, i1⟩, -⟩ := maps t
  have hi : ((cfg0.win 8).blk t).view.emb (ix2 r k) = ix2 n k := by
    funext a
    apply Fin.ext
    match a with
    | ⟨0, _⟩ => show win0_8.index t 0 * 1024 + 1 * r.val = n.val; omega
    | ⟨1, _⟩ => show win0_8.index t 1 * 1024 + 1 * k.val = k.val; omega
  have hf : (cfg0.win 8).flush t = true := (by decide +kernel : ∀ t : Fin grid0.N, (cfg0.win 8).flush t = true) t
  have h : ((dats m 0 c).flushed 8 t : Vec Ideal S1024x1024 .bf16) (ix2 r k)
      = column (rowOf m c ⟨n.val / 256, by omega⟩ ⟨n.val % 256, Nat.mod_lt _ (by norm_num)⟩) (queryGain m c k) (queryCol k) := by
    rw [Value.flushed8]
    have hg : ∀ k : Fin 1024, (iblk m c 4 t : Vec Ideal S1x1536 .f32) (ix2 0 (queryCol k)) = queryGain m c k ⟨(queryCol k).val % 64, Nat.mod_lt _ (by norm_num)⟩ := fun k => by
      refine blk_hgain m c t _ _ ?_
      unfold queryGain queryCol
      by_cases hk : k.val < 512
      · exact .inl ⟨by simp only [if_pos hk]; exact hk, if_pos hk⟩
      · exact .inr (.inr (.inl ⟨by simp only [if_neg hk]; omega, by simp only [if_neg hk]; omega, if_neg hk⟩))
    refine (congrFun (out_queries (iblk m c 0 t) (iblk m c 1 t) (iblk m c 2 t) (iblk m c 3 t) (iblk m c 4 t) (iblk m c 5 t) (iblk m c 6 t) (iblk m c 7 t)
      (fun l k => blk_bd m c t l k) (queryGain m c) hg) (ix2 r k)).trans ?_
    exact congrArg (fun z => column z (queryGain m c k) (queryCol k)) (block_row m c t r _ (by show n.val / 256 = _; omega) _ (by show n.val % 256 = _; omega))
  refine Eq.trans ?_ (((View.read_apply ..).symm.trans (congrFun (Value.blocks8 m c t hf) (ix2 r k))).trans h)
  exact congrArg _ hi.symm

/-- Sequence `b`'s positions are rows `256 * (b % 4) + p` of its point. -/
theorem block_seq (c : Dev nD) (t : Fin cfg0.N) (y : Fin 4) (b : Fin 32) (hb : b.val = 4 * t.val + y.val) (p : Fin 256) :
    blockRow (iblk m c 0 t) (iblk m c 1 t) (iblk m c 2 t) (iblk m c 3 t) ⟨256 * y.val + p.val, by omega⟩ = rowOf m c b p :=
  block_row m c t _ b (by show b.val = 4 * t.val + (256 * y.val + p.val) / 256; omega) p (by show p.val = (256 * y.val + p.val) % 256; omega)

/-- The first part's keys. -/
theorem keys_a (c : Dev nD) (b : Fin 32) (l : Fin 128) (p : Fin 256) :
    ((dats m 0 c).arrAt 9 cfg0.N : Vec Ideal S32x128x256 .f32) (ix3 b l p) = column (rowOf m c b p) (fun d => m ((c : Thread nD τ).loc main_arg5) (ix1 d)) ⟨512 + l.val, by omega⟩ := by
  let t : Fin cfg0.N := ⟨b.val / 4, by show _ < 8; omega⟩
  let y : Fin 4 := ⟨b.val % 4, Nat.mod_lt _ (by norm_num)⟩
  have hb : b.val = 4 * t.val + y.val := by show b.val = 4 * (b.val / 4) + b.val % 4; omega
  have hm := maps t
  have hi : ((cfg0.win 9).blk t).view.emb (ix3 y l p) = ix3 b l p := by
    funext a
    apply Fin.ext
    match a with
    | ⟨0, _⟩ => show win0_9.index t 0 * 4 + 1 * y.val = b.val; omega
    | ⟨1, _⟩ => show win0_9.index t 1 * 128 + 1 * l.val = l.val; omega
    | ⟨2, _⟩ => show win0_9.index t 2 * 256 + 1 * p.val = p.val; omega
  have hf : (cfg0.win 9).flush t = true := (by decide +kernel : ∀ t : Fin grid0.N, (cfg0.win 9).flush t = true) t
  have h : ((dats m 0 c).flushed 9 t : Vec Ideal S4x128x256 .f32) (ix3 y l p) = column (rowOf m c b p) (fun d => m ((c : Thread nD τ).loc main_arg5) (ix1 d)) ⟨512 + l.val, by omega⟩ := by
    rw [Value.flushed9, ← block_seq m c t y b hb p]
    exact out_keys_a (iblk m c 0 t) (iblk m c 1 t) (iblk m c 2 t) (iblk m c 3 t) (iblk m c 4 t) (iblk m c 5 t) (iblk m c 6 t) (iblk m c 7 t) (fun l k => blk_bd m c t l k) y l p _ (blk_hgain m c t _ _ (.inr (.inl ⟨Nat.le_add_right _ _, by show 512 + l.val < 640; omega, rfl⟩)))
  refine Eq.trans ?_ (((View.read_apply ..).symm.trans (congrFun (Value.blocks9 m c t hf) (ix3 y l p))).trans h)
  exact congrArg _ hi.symm

/-- The first part's values. -/
theorem values_a (c : Dev nD) (b : Fin 32) (l : Fin 128) (p : Fin 256) :
    ((dats m 0 c).arrAt 10 cfg0.N : Vec Ideal S32x128x256 .f32) (ix3 b l p) = rowOf m c b p ⟨640 + l.val, by omega⟩ := by
  let t : Fin cfg0.N := ⟨b.val / 4, by show _ < 8; omega⟩
  let y : Fin 4 := ⟨b.val % 4, Nat.mod_lt _ (by norm_num)⟩
  have hb : b.val = 4 * t.val + y.val := by show b.val = 4 * (b.val / 4) + b.val % 4; omega
  have hm := maps t
  have hi : ((cfg0.win 10).blk t).view.emb (ix3 y l p) = ix3 b l p := by
    funext a
    apply Fin.ext
    match a with
    | ⟨0, _⟩ => show win0_10.index t 0 * 4 + 1 * y.val = b.val; omega
    | ⟨1, _⟩ => show win0_10.index t 1 * 128 + 1 * l.val = l.val; omega
    | ⟨2, _⟩ => show win0_10.index t 2 * 256 + 1 * p.val = p.val; omega
  have hf : (cfg0.win 10).flush t = true := (by decide +kernel : ∀ t : Fin grid0.N, (cfg0.win 10).flush t = true) t
  have h : ((dats m 0 c).flushed 10 t : Vec Ideal S4x128x256 .f32) (ix3 y l p) = rowOf m c b p ⟨640 + l.val, by omega⟩ := by
    rw [Value.flushed10, ← block_seq m c t y b hb p]
    exact out_values_a (iblk m c 0 t) (iblk m c 1 t) (iblk m c 2 t) (iblk m c 3 t) (iblk m c 4 t) (iblk m c 5 t) (iblk m c 6 t) (iblk m c 7 t) y l p
  refine Eq.trans ?_ (((View.read_apply ..).symm.trans (congrFun (Value.blocks10 m c t hf) (ix3 y l p))).trans h)
  exact congrArg _ hi.symm

/-- The second part's keys. -/
theorem keys_b (c : Dev nD) (b : Fin 32) (l : Fin 128) (p : Fin 256) :
    ((dats m 0 c).arrAt 11 cfg0.N : Vec Ideal S32x128x256 .f32) (ix3 b l p) = column (rowOf m c b p) (fun d => m ((c : Thread nD τ).loc main_arg7) (ix1 d)) ⟨1280 + l.val, by omega⟩ := by
  let t : Fin cfg0.N := ⟨b.val / 4, by show _ < 8; omega⟩
  let y : Fin 4 := ⟨b.val % 4, Nat.mod_lt _ (by norm_num)⟩
  have hb : b.val = 4 * t.val + y.val := by show b.val = 4 * (b.val / 4) + b.val % 4; omega
  have hm := maps t
  have hi : ((cfg0.win 11).blk t).view.emb (ix3 y l p) = ix3 b l p := by
    funext a
    apply Fin.ext
    match a with
    | ⟨0, _⟩ => show win0_11.index t 0 * 4 + 1 * y.val = b.val; omega
    | ⟨1, _⟩ => show win0_11.index t 1 * 128 + 1 * l.val = l.val; omega
    | ⟨2, _⟩ => show win0_11.index t 2 * 256 + 1 * p.val = p.val; omega
  have hf : (cfg0.win 11).flush t = true := (by decide +kernel : ∀ t : Fin grid0.N, (cfg0.win 11).flush t = true) t
  have h : ((dats m 0 c).flushed 11 t : Vec Ideal S4x128x256 .f32) (ix3 y l p) = column (rowOf m c b p) (fun d => m ((c : Thread nD τ).loc main_arg7) (ix1 d)) ⟨1280 + l.val, by omega⟩ := by
    rw [Value.flushed11, ← block_seq m c t y b hb p]
    exact out_keys_b (iblk m c 0 t) (iblk m c 1 t) (iblk m c 2 t) (iblk m c 3 t) (iblk m c 4 t) (iblk m c 5 t) (iblk m c 6 t) (iblk m c 7 t) (fun l k => blk_bd m c t l k) y l p _ (blk_hgain m c t _ _ (.inr (.inr (.inr ⟨Nat.le_add_right _ _, by show 1280 + l.val < 1408; omega, rfl⟩))))
  refine Eq.trans ?_ (((View.read_apply ..).symm.trans (congrFun (Value.blocks11 m c t hf) (ix3 y l p))).trans h)
  exact congrArg _ hi.symm

/-- The second part's values. -/
theorem values_b (c : Dev nD) (b : Fin 32) (l : Fin 128) (p : Fin 256) :
    ((dats m 0 c).arrAt 12 cfg0.N : Vec Ideal S32x128x256 .f32) (ix3 b l p) = rowOf m c b p ⟨1408 + l.val, by omega⟩ := by
  let t : Fin cfg0.N := ⟨b.val / 4, by show _ < 8; omega⟩
  let y : Fin 4 := ⟨b.val % 4, Nat.mod_lt _ (by norm_num)⟩
  have hb : b.val = 4 * t.val + y.val := by show b.val = 4 * (b.val / 4) + b.val % 4; omega
  have hm := maps t
  have hi : ((cfg0.win 12).blk t).view.emb (ix3 y l p) = ix3 b l p := by
    funext a
    apply Fin.ext
    match a with
    | ⟨0, _⟩ => show win0_12.index t 0 * 4 + 1 * y.val = b.val; omega
    | ⟨1, _⟩ => show win0_12.index t 1 * 128 + 1 * l.val = l.val; omega
    | ⟨2, _⟩ => show win0_12.index t 2 * 256 + 1 * p.val = p.val; omega
  have hf : (cfg0.win 12).flush t = true := (by decide +kernel : ∀ t : Fin grid0.N, (cfg0.win 12).flush t = true) t
  have h : ((dats m 0 c).flushed 12 t : Vec Ideal S4x128x256 .f32) (ix3 y l p) = rowOf m c b p ⟨1408 + l.val, by omega⟩ := by
    rw [Value.flushed12, ← block_seq m c t y b hb p]
    exact out_values_b (iblk m c 0 t) (iblk m c 1 t) (iblk m c 2 t) (iblk m c 3 t) (iblk m c 4 t) (iblk m c 5 t) (iblk m c 6 t) (iblk m c 7 t) y l p
  refine Eq.trans ?_ (((View.read_apply ..).symm.trans (congrFun (Value.blocks12 m c t hf) (ix3 y l p))).trans h)
  exact congrArg _ hi.symm

end Cert.QkvIdeal.Whole

end
-- ==== Proof.QkvRefValue.lean ====
/-
  The projection reference's five results over the extended reals: queries and keys normalised head by head, and values.
-/
module

public import proofs.«01_k».proof.Proof.QkvSpec
public import proofs.«01_k».proof.Proof.Gen.QkvRefIdeal.Read
public import Idealize.ShloMosaic.Lib.Pointwise

@[expose] public section

set_option maxRecDepth 16384

noncomputable section

namespace Cert.QkvRefIdeal.Whole

open Cert.QkvRefIdeal Cert.QkvRefIdeal.Read Cert.Project Idealize.ShloMosaic Idealize.ShloMosaic.TcCoe Idealize.SL.Sem
open scoped BigOperators

variable (x0 : Vec Ideal S32x256x1024 .f32) (x1 : Vec Ideal S1x6144 .f32) (x2 : Vec Ideal S1024 .f32) (x3 : Vec Ideal S1024x1536 .f32) (x4 x5 x6 x7 : Vec Ideal S64 .f32)

/-- A position's projection, from the arguments. -/
def rowOf (b : Fin 32) (p : Fin 256) : Fin 1536 → EReal :=
  row (fun b p k => x0 (ix3 b p k)) (fun i => x1 (ix2 0 i)) (fun k => x2 (ix1 k)) (fun k j => x3 (ix2 k j)) b p

theorem row_read (b : Fin 32) (p : Fin 256) (j : Fin 1536) : val_main_v26 (F := Ideal) x0 x1 x2 x3 (ix3 b p j) = rowOf x0 x1 x2 x3 b p j := by
  unfold val_main_v26 val_main_v25 val_main_v24 val_main_v23 val_main_v22 val_main_v21 val_main_v20 val_main_cst_2 val_main_v19 val_main_v18 val_main_v17 val_main_v16 val_main_v15 val_main_v14
    val_main_v13 val_main_v12 val_main_cst_1 val_main_v11 val_main_v10 val_main_cst_0 val_main_v9 val_main_v8 val_main_cst val_main_v7 val_main_v2 val_main_v1 val_main_v0
  unfold rowOf row proj conditioned
  pointwise

/-- A column normalised within its head, by its head and its lane; `o` is where its part starts. -/
theorem column_of_head (p : Fin 1536 → EReal) (g : Fin 64 → EReal) (o l : ℕ) (ho : 64 ∣ o) (hl : o + l < 1536) (hl' : ∀ e : Fin 64, o + (l / 64 * 64 + e.val) < 1536) :
    headNorm (fun e => p ⟨o + (l / 64 * 64 + e.val), hl' e⟩) g ⟨l % 64, Nat.mod_lt _ (by norm_num)⟩ = column p g ⟨o + l, hl⟩ := by
  unfold column
  have e1 : (fun e : Fin 64 => p ⟨o + (l / 64 * 64 + e.val), hl' e⟩) = headAt p ⟨o + l, hl⟩ :=
    funext fun e => congrArg p (Fin.ext (by show o + (l / 64 * 64 + e.val) = 64 * ((o + l) / 64) + e.val; omega))
  have e2 : (⟨l % 64, Nat.mod_lt _ (by norm_num)⟩ : Fin 64) = ⟨(o + l) % 64, Nat.mod_lt _ (by norm_num)⟩ := Fin.ext (by show l % 64 = (o + l) % 64; omega)
  rw [e1, e2]

/-- A head of the first part's queries. -/
theorem queries_a_read (b : Fin 32) (p : Fin 256) (h : Fin 8) (d : Fin 64) :
    val_main_v46 (F := Ideal) x0 x1 x2 x3 x4 (ix4 b p h d)
      = headNorm (fun e => val_main_v26 (F := Ideal) x0 x1 x2 x3 (ix3 b p ⟨0 + (h.val * 64 + e.val), by omega⟩)) (fun d => x4 (ix1 d)) d := by
  unfold val_main_v46 val_main_v45 val_main_v44 val_main_v43 val_main_v42 val_main_v41 val_main_v40 val_main_v39 val_main_v38 val_main_v37 val_main_v36 val_main_v35 val_main_v34 val_main_cst_3 val_main_cst_4 val_main_cst_5 val_main_v33 val_main_v27 headNorm
  generalize val_main_v26 (F := Ideal) x0 x1 x2 x3 = P
  pointwise

/-- A head of the second part's queries. -/
theorem queries_b_read (b : Fin 32) (p : Fin 256) (h : Fin 8) (d : Fin 64) :
    val_main_v60 (F := Ideal) x0 x1 x2 x3 x6 (ix4 b p h d)
      = headNorm (fun e => val_main_v26 (F := Ideal) x0 x1 x2 x3 (ix3 b p ⟨768 + (h.val * 64 + e.val), by omega⟩)) (fun d => x6 (ix1 d)) d := by
  unfold val_main_v60 val_main_v59 val_main_v58 val_main_v57 val_main_v56 val_main_v55 val_main_v54 val_main_v53 val_main_v52 val_main_v51 val_main_v50 val_main_v49 val_main_v48 val_main_cst_6 val_main_cst_7 val_main_cst_8 val_main_v47 val_main_v30 headNorm
  generalize val_main_v26 (F := Ideal) x0 x1 x2 x3 = P
  pointwise

/-- A head of the first part's keys. -/
theorem keys_a_read (b : Fin 32) (p : Fin 256) (h : Fin 2) (d : Fin 64) :
    val_main_v78 (F := Ideal) x0 x1 x2 x3 x5 (ix4 b p h d)
      = headNorm (fun e => val_main_v26 (F := Ideal) x0 x1 x2 x3 (ix3 b p ⟨512 + (h.val * 64 + e.val), by omega⟩)) (fun d => x5 (ix1 d)) d := by
  unfold val_main_v78 val_main_v77 val_main_v76 val_main_v75 val_main_v74 val_main_v73 val_main_v72 val_main_v71 val_main_v70 val_main_v69 val_main_v68 val_main_v67 val_main_v66 val_main_cst_9 val_main_cst_10 val_main_cst_11 val_main_v65 val_main_v28 headNorm
  generalize val_main_v26 (F := Ideal) x0 x1 x2 x3 = P
  pointwise

/-- A head of the second part's keys. -/
theorem keys_b_read (b : Fin 32) (p : Fin 256) (h : Fin 2) (d : Fin 64) :
    val_main_v97 (F := Ideal) x0 x1 x2 x3 x7 (ix4 b p h d)
      = headNorm (fun e => val_main_v26 (F := Ideal) x0 x1 x2 x3 (ix3 b p ⟨1280 + (h.val * 64 + e.val), by omega⟩)) (fun d => x7 (ix1 d)) d := by
  unfold val_main_v97 val_main_v96 val_main_v95 val_main_v94 val_main_v93 val_main_v92 val_main_v91 val_main_v90 val_main_v89 val_main_v88 val_main_v87 val_main_v86 val_main_v85 val_main_cst_12 val_main_cst_13 val_main_cst_14 val_main_v84 val_main_v31 headNorm
  generalize val_main_v26 (F := Ideal) x0 x1 x2 x3 = P
  pointwise

/-- The first part's keys. -/
theorem keys_a (b : Fin 32) (l : Fin 128) (p : Fin 256) :
    val_main_v80 (F := Ideal) x0 x1 x2 x3 x5 (ix3 b l p) = column (rowOf x0 x1 x2 x3 b p) (fun d => x5 (ix1 d)) ⟨512 + l.val, by omega⟩ := by
  have e : val_main_v80 (F := Ideal) x0 x1 x2 x3 x5 (ix3 b l p)
      = val_main_v78 (F := Ideal) x0 x1 x2 x3 x5 (ix4 b p ⟨l.val / 64, by omega⟩ ⟨l.val % 64, Nat.mod_lt _ (by norm_num)⟩) := by
    unfold val_main_v80 val_main_v79
    generalize val_main_v78 (F := Ideal) x0 x1 x2 x3 x5 = P
    pointwise
  rw [e, keys_a_read]
  simp only [row_read]
  exact column_of_head (rowOf x0 x1 x2 x3 b p) _ 512 l.val (by norm_num) _ _

/-- The second part's keys. -/
theorem keys_b (b : Fin 32) (l : Fin 128) (p : Fin 256) :
    val_main_v99 (F := Ideal) x0 x1 x2 x3 x7 (ix3 b l p) = column (rowOf x0 x1 x2 x3 b p) (fun d => x7 (ix1 d)) ⟨1280 + l.val, by omega⟩ := by
  have e : val_main_v99 (F := Ideal) x0 x1 x2 x3 x7 (ix3 b l p)
      = val_main_v97 (F := Ideal) x0 x1 x2 x3 x7 (ix4 b p ⟨l.val / 64, by omega⟩ ⟨l.val % 64, Nat.mod_lt _ (by norm_num)⟩) := by
    unfold val_main_v99 val_main_v98
    generalize val_main_v97 (F := Ideal) x0 x1 x2 x3 x7 = P
    pointwise
  rw [e, keys_b_read]
  simp only [row_read]
  exact column_of_head (rowOf x0 x1 x2 x3 b p) _ 1280 l.val (by norm_num) _ _

/-- The first part's values. -/
theorem values_a (b : Fin 32) (l : Fin 128) (p : Fin 256) : val_main_v83 (F := Ideal) x0 x1 x2 x3 (ix3 b l p) = rowOf x0 x1 x2 x3 b p ⟨640 + l.val, by omega⟩ := by
  rw [← row_read]
  unfold val_main_v83 val_main_v82 val_main_v81 val_main_v29
  generalize val_main_v26 (F := Ideal) x0 x1 x2 x3 = P
  pointwise

/-- The second part's values. -/
theorem values_b (b : Fin 32) (l : Fin 128) (p : Fin 256) : val_main_v102 (F := Ideal) x0 x1 x2 x3 (ix3 b l p) = rowOf x0 x1 x2 x3 b p ⟨1408 + l.val, by omega⟩ := by
  rw [← row_read]
  unfold val_main_v102 val_main_v101 val_main_v100 val_main_v32
  generalize val_main_v26 (F := Ideal) x0 x1 x2 x3 = P
  pointwise

/-- The queries, the first part's eight heads before the second's. -/
theorem queries (n : Fin 8192) (k : Fin 1024) : val_main_v64 (F := Ideal) x0 x1 x2 x3 x4 x6 (ix2 n k)
    = column (rowOf x0 x1 x2 x3 ⟨n.val / 256, by omega⟩ ⟨n.val % 256, Nat.mod_lt _ (by norm_num)⟩) (if k.val < 512 then fun d => x4 (ix1 d) else fun d => x6 (ix1 d)) (queryCol k) := by
  have e : val_main_v64 (F := Ideal) x0 x1 x2 x3 x4 x6 (ix2 n k)
      = if h : k.val < 512 then val_main_v61 (F := Ideal) x0 x1 x2 x3 x4 (ix2 n ⟨k.val, h⟩) else val_main_v62 (F := Ideal) x0 x1 x2 x3 x6 (ix2 n ⟨k.val - 512, by omega⟩) := by
    unfold val_main_v64 val_main_v63
    pointwise
  have ea : ∀ k : Fin 512, val_main_v61 (F := Ideal) x0 x1 x2 x3 x4 (ix2 n k)
      = val_main_v46 (F := Ideal) x0 x1 x2 x3 x4 (ix4 ⟨n.val / 256, by omega⟩ ⟨n.val % 256, Nat.mod_lt _ (by norm_num)⟩ ⟨k.val / 64, by omega⟩ ⟨k.val % 64, Nat.mod_lt _ (by norm_num)⟩) := fun k => by
    unfold val_main_v61
    generalize val_main_v46 (F := Ideal) x0 x1 x2 x3 x4 = P
    pointwise
  have eb : ∀ k : Fin 512, val_main_v62 (F := Ideal) x0 x1 x2 x3 x6 (ix2 n k)
      = val_main_v60 (F := Ideal) x0 x1 x2 x3 x6 (ix4 ⟨n.val / 256, by omega⟩ ⟨n.val % 256, Nat.mod_lt _ (by norm_num)⟩ ⟨k.val / 64, by omega⟩ ⟨k.val % 64, Nat.mod_lt _ (by norm_num)⟩) := fun k => by
    unfold val_main_v62
    generalize val_main_v60 (F := Ideal) x0 x1 x2 x3 x6 = P
    pointwise
  rw [e]
  by_cases h : k.val < 512
  · rw [dif_pos h, if_pos h, ea, queries_a_read]
    simp only [row_read]
    refine (column_of_head (rowOf x0 x1 x2 x3 _ _) _ 0 k.val (by norm_num) (by omega) _).trans (congrArg (column _ _) (Fin.ext ?_))
    show 0 + k.val = if k.val < 512 then k.val else k.val + 256
    rw [if_pos h]; omega
  · rw [dif_neg h, if_neg h, eb, queries_b_read]
    simp only [row_read]
    refine (column_of_head (rowOf x0 x1 x2 x3 _ _) _ 768 (k.val - 512) (by norm_num) (by omega) _).trans (congrArg (column _ _) (Fin.ext ?_))
    show 768 + (k.val - 512) = if k.val < 512 then k.val else k.val + 256
    rw [if_neg h]; omega

end Cert.QkvRefIdeal.Whole

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnFold
public import proofs.«01_k».proof.Proof.FfnRefValue
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.AttnPre
public import proofs.«01_k».proof.Proof.AttnValue
public import proofs.«01_k».proof.Proof.AttnRefValue
public import proofs.«01_k».proof.Proof.QkvValue
public import proofs.«01_k».proof.Proof.QkvRefValue
public import Idealize.ShloMosaic.Adequacy
public import Idealize.ShloMosaic.Init

@[expose] public section

noncomputable section

namespace Cert.Proof

open Idealize.ShloMosaic Idealize.SL.Sem Cert.Ffn

/-- The feed-forward kernel and its reference end with equal results over the extended reals. -/
theorem ffn_equal : Cert.algebraic_FfnIdeal_FfnRefIdeal (hFfnIdeal := Cert.FfnIdeal.Gen.facts) (hFfnRefIdeal := Cert.FfnRefIdeal.Gen.facts) := by
  intro m ρ m' ρ' _ hagree
  refine ⟨fun c => Cert.FfnIdeal.Fold.sample m c, fun c => Cert.FfnIdeal.Fold.prompt m c, ?_, ?_⟩
  · refine (θ_run Cert.FfnIdeal.defs _ _).mono (fun _ h c => ?_) (Cert.FfnIdeal.Value.run m ρ)
    obtain ⟨h0, h1, hk⟩ := h c
    exact ⟨h0.trans (Cert.FfnIdeal.Fold.sample_eq m c), h1.trans (Cert.FfnIdeal.Fold.prompt_eq m c), hk⟩
  · refine (θ_run Cert.FfnRefIdeal.defs _ _).mono (fun _ h c => ?_) (Cert.FfnRefIdeal.Value.run (F := Ideal) m' ρ')
    obtain ⟨h0, h1, hk⟩ := h c
    obtain ⟨a0, a1, a2, a3, a4⟩ := hagree c
    refine ⟨h0.trans ?_, h1.trans ?_, hk⟩
    · rw [Cert.FfnRefIdeal.Read.val_main_v9_eq, a0, a2, a3, a4]
      exact funext fun i => Cert.FfnRefIdeal.Sum.sample_read _ _ _ _ i
    · rw [Cert.FfnRefIdeal.Read.val_main_v19_eq, a1, a2, a3, a4]
      exact funext fun i => Cert.FfnRefIdeal.Sum.prompt_read _ _ _ _ i

/-- The feed-forward reference runs and keeps its arguments; it has no semaphore. -/
theorem ffn_reference_frame : Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- Equal arguments give the reference's array and the kernel's the same elements. -/
theorem attn_array (m : (ℓ : Loc Cert.AttnIdeal.nD Cert.AttnIdeal.τ Cert.AttnIdeal.sig) → Buf (Elt Ideal) ℓ)
    (h : Cert.Pre_AttnIdeal_attn_finite (hPre_attn_finite := Cert.AttnFinite.facts) m) (c : Dev Cert.AttnIdeal.nD) :
    Cert.AttnRefIdeal.Read.val_main_v66 (F := Ideal) (m (c.tc.loc Cert.AttnIdeal.main_arg0)) (m (c.tc.loc Cert.AttnIdeal.main_arg1))
        (m (c.tc.loc Cert.AttnIdeal.main_arg2)) (m (c.tc.loc Cert.AttnIdeal.main_arg3)) (m (c.tc.loc Cert.AttnIdeal.main_arg4))
        (m (c.tc.loc Cert.AttnIdeal.main_arg5)) (m (c.tc.loc Cert.AttnIdeal.main_arg6)) (m (c.tc.loc Cert.AttnIdeal.main_arg7))
        (m (c.tc.loc Cert.AttnIdeal.main_arg8)) (m (c.tc.loc Cert.AttnIdeal.main_arg9)) (m (c.tc.loc Cert.AttnIdeal.main_arg10))
      = (Cert.AttnIdeal.Gen.dats m 0 c).arrAt 10 Cert.AttnIdeal.cfg0.N := by
  have n := fun c => @Cert.AttnFinite.numbers Cert.AttnFinite.facts m h c
  obtain ⟨n0, n1, n2, n4, n5, n7, n9⟩ := n c
  funext y
  have hy : (y 0).val < 8192 := (y 0).isLt
  obtain ⟨b, p, k, e⟩ : ∃ (b : Fin 4) (p : Fin 2048) (k : Fin 1024), y = ix2 (⟨2048 * b.val + p.val, by omega⟩ : Fin 8192) k :=
    ⟨⟨(y 0).val / 2048, by omega⟩, ⟨(y 0).val % 2048, by omega⟩, y 1, (Cert.AttnIdeal.Point.idx2_eq y).trans
      (congrArg (fun a : Fin 8192 => ix2 a (y 1)) (Fin.ext (by show _ = 2048 * (_ / 2048) + _ % 2048; omega)))⟩
  rw [e]
  exact (Cert.AttnRefIdeal.Whole.reference_value _ _ _ _ _ _ _ _ _ _ _ n0 n1 n2 n4 n5 n7 n9 b p k).trans
    (Cert.AttnIdeal.Whole.kernel_value m (fun c => (n c).1) (fun c => (n c).2.1) (fun c => (n c).2.2.1) (fun c => (n c).2.2.2.1)
      (fun c => (n c).2.2.2.2.1) (fun c => (n c).2.2.2.2.2.1) (fun c => (n c).2.2.2.2.2.2) c b p k).symm

/-- The attention kernel and its reference end with equal results over the extended reals. -/
theorem attn_equal : Cert.algebraic_AttnIdeal_AttnRefIdeal_pre_attn_finite (hAttnIdeal := Cert.AttnIdeal.Gen.facts)
    (hAttnRefIdeal := Cert.AttnRefIdeal.Gen.facts) (hPre_attn_finite := Cert.AttnFinite.facts) := by
  intro m ρ m' ρ' hpre hagree
  refine ⟨fun c => (Cert.AttnIdeal.Gen.dats m 0 c).arrAt 10 Cert.AttnIdeal.cfg0.N, Cert.AttnIdeal.Value.run_blocks m ρ, ?_⟩
  refine (θ_run Cert.AttnRefIdeal.defs _ _).mono (fun _ h c => ?_) (Cert.AttnRefIdeal.Value.run (F := Ideal) m' ρ')
  obtain ⟨h0, hk⟩ := h c
  obtain ⟨a0, a1, a2, a3, a4, a5, a6, a7, a8, a9, a10⟩ := hagree c
  refine ⟨h0.trans ?_, hk⟩
  rw [Cert.AttnRefIdeal.Read.val_main_v66_eq, a0, a1, a2, a3, a4, a5, a6, a7, a8, a9, a10]
  exact attn_array m hpre c

/-- The attention reference runs and keeps its arguments; it has no semaphore. -/
theorem attn_reference_frame : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The three named constants of the attention kernel. -/
theorem attn_constants : Cert.preserves_Attn_AttnIdeal :=
  ⟨IdealRules.named_const.statement Cert.AttnIdeal.κ "qscale" .f32 0x3E38AA3B#32 (((1 / 8) * (Real.log 2)⁻¹ : ℝ) : EReal) rfl,
    IdealRules.named_const.statement Cert.AttnIdeal.κ "log2e" .f32 0x3FB8AA3B#32 (((Real.log 2)⁻¹ : ℝ) : EReal) rfl,
    IdealRules.named_const.statement Cert.AttnIdeal.κ "mask" .f32 0xF149F2CA#32 (⊥ : EReal) rfl⟩

/-- An index of a key or value array is its three coordinates. -/
theorem cut3 (y : (⟨3, ![32, 128, 256]⟩ : Shape).Idx) : y = ix3 (y 0) (y 1) (y 2) := funext fun a => by
  match a with
  | ⟨0, _⟩ => rfl
  | ⟨1, _⟩ => rfl
  | ⟨2, _⟩ => rfl

/-- The queries of the reference are the kernel's. -/
theorem queries_array (m : (ℓ : Loc Cert.QkvIdeal.nD Cert.QkvIdeal.τ Cert.QkvIdeal.sig) → Buf (Elt Ideal) ℓ) (c : Dev Cert.QkvIdeal.nD) :
    Cert.QkvRefIdeal.Read.val_main_v64 (F := Ideal) (m (c.tc.loc Cert.QkvIdeal.main_arg0)) (m (c.tc.loc Cert.QkvIdeal.main_arg1)) (m (c.tc.loc Cert.QkvIdeal.main_arg2)) (m (c.tc.loc Cert.QkvIdeal.main_arg3)) (m (c.tc.loc Cert.QkvIdeal.main_arg4)) (m (c.tc.loc Cert.QkvIdeal.main_arg6))
      = (Cert.QkvIdeal.Gen.dats m 0 c).arrAt 8 Cert.QkvIdeal.cfg0.N := by
  funext y
  rw [Cert.QkvIdeal.Whole.idx2_eq y]
  exact (Cert.QkvRefIdeal.Whole.queries _ _ _ _ _ _ (y 0) (y 1)).trans (Cert.QkvIdeal.Whole.queries m c (y 0) (y 1)).symm

/-- The first part's keys of the reference are the kernel's. -/
theorem keys_a_array (m : (ℓ : Loc Cert.QkvIdeal.nD Cert.QkvIdeal.τ Cert.QkvIdeal.sig) → Buf (Elt Ideal) ℓ) (c : Dev Cert.QkvIdeal.nD) :
    Cert.QkvRefIdeal.Read.val_main_v80 (F := Ideal) (m (c.tc.loc Cert.QkvIdeal.main_arg0)) (m (c.tc.loc Cert.QkvIdeal.main_arg1)) (m (c.tc.loc Cert.QkvIdeal.main_arg2)) (m (c.tc.loc Cert.QkvIdeal.main_arg3)) (m (c.tc.loc Cert.QkvIdeal.main_arg5))
      = (Cert.QkvIdeal.Gen.dats m 0 c).arrAt 9 Cert.QkvIdeal.cfg0.N := by
  funext y
  rw [cut3 y]
  exact (Cert.QkvRefIdeal.Whole.keys_a _ _ _ _ _ (y 0) (y 1) (y 2)).trans (Cert.QkvIdeal.Whole.keys_a m c (y 0) (y 1) (y 2)).symm

/-- The first part's values of the reference are the kernel's. -/
theorem values_a_array (m : (ℓ : Loc Cert.QkvIdeal.nD Cert.QkvIdeal.τ Cert.QkvIdeal.sig) → Buf (Elt Ideal) ℓ) (c : Dev Cert.QkvIdeal.nD) :
    Cert.QkvRefIdeal.Read.val_main_v83 (F := Ideal) (m (c.tc.loc Cert.QkvIdeal.main_arg0)) (m (c.tc.loc Cert.QkvIdeal.main_arg1)) (m (c.tc.loc Cert.QkvIdeal.main_arg2)) (m (c.tc.loc Cert.QkvIdeal.main_arg3))
      = (Cert.QkvIdeal.Gen.dats m 0 c).arrAt 10 Cert.QkvIdeal.cfg0.N := by
  funext y
  rw [cut3 y]
  exact (Cert.QkvRefIdeal.Whole.values_a _ _ _ _ (y 0) (y 1) (y 2)).trans (Cert.QkvIdeal.Whole.values_a m c (y 0) (y 1) (y 2)).symm

/-- The second part's keys of the reference are the kernel's. -/
theorem keys_b_array (m : (ℓ : Loc Cert.QkvIdeal.nD Cert.QkvIdeal.τ Cert.QkvIdeal.sig) → Buf (Elt Ideal) ℓ) (c : Dev Cert.QkvIdeal.nD) :
    Cert.QkvRefIdeal.Read.val_main_v99 (F := Ideal) (m (c.tc.loc Cert.QkvIdeal.main_arg0)) (m (c.tc.loc Cert.QkvIdeal.main_arg1)) (m (c.tc.loc Cert.QkvIdeal.main_arg2)) (m (c.tc.loc Cert.QkvIdeal.main_arg3)) (m (c.tc.loc Cert.QkvIdeal.main_arg7))
      = (Cert.QkvIdeal.Gen.dats m 0 c).arrAt 11 Cert.QkvIdeal.cfg0.N := by
  funext y
  rw [cut3 y]
  exact (Cert.QkvRefIdeal.Whole.keys_b _ _ _ _ _ (y 0) (y 1) (y 2)).trans (Cert.QkvIdeal.Whole.keys_b m c (y 0) (y 1) (y 2)).symm

/-- The second part's values of the reference are the kernel's. -/
theorem values_b_array (m : (ℓ : Loc Cert.QkvIdeal.nD Cert.QkvIdeal.τ Cert.QkvIdeal.sig) → Buf (Elt Ideal) ℓ) (c : Dev Cert.QkvIdeal.nD) :
    Cert.QkvRefIdeal.Read.val_main_v102 (F := Ideal) (m (c.tc.loc Cert.QkvIdeal.main_arg0)) (m (c.tc.loc Cert.QkvIdeal.main_arg1)) (m (c.tc.loc Cert.QkvIdeal.main_arg2)) (m (c.tc.loc Cert.QkvIdeal.main_arg3))
      = (Cert.QkvIdeal.Gen.dats m 0 c).arrAt 12 Cert.QkvIdeal.cfg0.N := by
  funext y
  rw [cut3 y]
  exact (Cert.QkvRefIdeal.Whole.values_b _ _ _ _ (y 0) (y 1) (y 2)).trans (Cert.QkvIdeal.Whole.values_b m c (y 0) (y 1) (y 2)).symm

set_option maxHeartbeats 2000000 in
/-- The projection kernel and its reference end with equal results over the extended reals. -/
theorem qkv_equal : Cert.algebraic_QkvIdeal_QkvRefIdeal (hQkvIdeal := Cert.QkvIdeal.Gen.facts) (hQkvRefIdeal := Cert.QkvRefIdeal.Gen.facts) := by
  intro m ρ m' ρ' _ hagree
  refine ⟨fun c => (Cert.QkvIdeal.Gen.dats m 0 c).arrAt 8 Cert.QkvIdeal.cfg0.N, fun c => (Cert.QkvIdeal.Gen.dats m 0 c).arrAt 9 Cert.QkvIdeal.cfg0.N,
    fun c => (Cert.QkvIdeal.Gen.dats m 0 c).arrAt 10 Cert.QkvIdeal.cfg0.N, fun c => (Cert.QkvIdeal.Gen.dats m 0 c).arrAt 11 Cert.QkvIdeal.cfg0.N,
    fun c => (Cert.QkvIdeal.Gen.dats m 0 c).arrAt 12 Cert.QkvIdeal.cfg0.N, Cert.QkvIdeal.Value.run_blocks m ρ, ?_⟩
  refine (θ_run Cert.QkvRefIdeal.defs _ _).mono (fun _ h c => ?_) (Cert.QkvRefIdeal.Value.run (F := Ideal) m' ρ')
  obtain ⟨h0, h1, h2, h3, h4, hk⟩ := h c
  obtain ⟨a0, a1, a2, a3, a4, a5, a6, a7⟩ := hagree c
  refine ⟨h0.trans ?_, h1.trans ?_, h2.trans ?_, h3.trans ?_, h4.trans ?_, hk⟩
  · rw [Cert.QkvRefIdeal.Read.val_main_v64_eq, a0, a1, a2, a3, a4, a6]
    exact queries_array m c
  · rw [Cert.QkvRefIdeal.Read.val_main_v80_eq, a0, a1, a2, a3, a5]
    exact keys_a_array m c
  · have e : Cert.QkvRefIdeal.Read.val_main_v83 (F := Ideal) (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg3))
        = (Cert.QkvIdeal.Gen.dats m 0 c).arrAt 10 Cert.QkvIdeal.cfg0.N := by
      rw [a0, a1, a2, a3]
      exact values_a_array m c
    exact (Cert.QkvRefIdeal.Read.val_main_v83_eq (F := Ideal) (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg3))).trans e
  · rw [Cert.QkvRefIdeal.Read.val_main_v99_eq, a0, a1, a2, a3, a7]
    exact keys_b_array m c
  · have e : Cert.QkvRefIdeal.Read.val_main_v102 (F := Ideal) (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg3))
        = (Cert.QkvIdeal.Gen.dats m 0 c).arrAt 12 Cert.QkvIdeal.cfg0.N := by
      rw [a0, a1, a2, a3]
      exact values_b_array m c
    exact (Cert.QkvRefIdeal.Read.val_main_v102_eq (F := Ideal) (m' (c.tc.loc Cert.QkvRefIdeal.main_arg0)) (m' (c.tc.loc Cert.QkvRefIdeal.main_arg1)) (m' (c.tc.loc Cert.QkvRefIdeal.main_arg2)) (m' (c.tc.loc Cert.QkvRefIdeal.main_arg3))).trans e

/-- The projection reference runs and keeps its arguments; it has no semaphore. -/
theorem qkv_reference_frame : Cert.quiescent_QkvRefIdeal (hQkvRefIdeal := Cert.QkvRefIdeal.Gen.facts) := fun m ρ _ =>
  (θ_run Cert.QkvRefIdeal.defs _ _).mono (fun r h => ⟨fun c => (h c).2.2.2.2.2, sem_eq_zero_of_no_sems (by decide) r.2⟩)
    (Cert.QkvRefIdeal.Value.run (F := Ideal) m ρ)

/-- Everything claimed. -/
theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.Qkv.Gen.facts, Cert.QkvIdeal.Gen.facts, Cert.QkvRefIdeal.Gen.facts, Cert.AttnFinite.facts,
  fun m ρ _ => Cert.Ffn.Gen.frame m ρ, fun m ρ _ => Cert.FfnIdeal.Gen.frame m ρ, ffn_reference_frame,
  fun m ρ _ => Cert.Attn.Gen.frame m ρ, fun m ρ _ => Cert.AttnIdeal.Gen.frame m ρ, fun m ρ _ => Cert.AttnIdeal.Gen.frame m ρ,
  attn_reference_frame, fun m ρ _ => attn_reference_frame m ρ trivial,
  fun m ρ _ => Cert.Qkv.Gen.frame m ρ, fun m ρ _ => Cert.QkvIdeal.Gen.frame m ρ, qkv_reference_frame,
  trivial, ffn_equal, attn_constants, attn_equal, trivial, qkv_equal⟩

end Cert.Proof

end
